-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![4, 1024, 1024]⟩ ⟨3, ![4, 2048, 1024]⟩ (Layout.meshBlock [2, 2] ![[], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.blockN ⟨3, ![4, 1024, 32]⟩ ⟨3, ![4, 2048, 32]⟩ (Layout.meshBlock [2, 2] ![[], [0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 1024, 32]⟩ ⟨3, ![4, 2048, 32]⟩ (Layout.meshBlock [2, 2] ![[], [0], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = Layout.blockN ⟨3, ![4, 1024, 1024]⟩ ⟨3, ![4, 2048, 1024]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x1024 : Shape := ⟨3, ![4, 1024, 1024]⟩
abbrev S1024x32 : Shape := ⟨2, ![1024, 32]⟩
abbrev S4x1024x32 : Shape := ⟨3, ![4, 1024, 32]⟩
abbrev S32x1024 : Shape := ⟨2, ![32, 1024]⟩
abbrev S1024x4x32 : Shape := ⟨3, ![1024, 4, 32]⟩
abbrev S4x4 : Shape := ⟨2, ![4, 4]⟩
abbrev S_ : Shape := ⟨0, ![]⟩
abbrev S1x4x4x1 : Shape := ⟨4, ![1, 4, 4, 1]⟩
abbrev S1024x4x1x32 : Shape := ⟨4, ![1024, 4, 1, 32]⟩
abbrev S1024x4x4x32 : Shape := ⟨4, ![1024, 4, 4, 32]⟩
abbrev S1024x4x128 : Shape := ⟨3, ![1024, 4, 128]⟩
abbrev S4x16x1024 : Shape := ⟨3, ![4, 16, 1024]⟩
abbrev S4x16x32 : Shape := ⟨3, ![4, 16, 32]⟩
abbrev S4x32x1024 : Shape := ⟨3, ![4, 32, 1024]⟩
abbrev S4x512x1024 : Shape := ⟨3, ![4, 512, 1024]⟩
abbrev S2 : Shape := ⟨1, ![2]⟩
abbrev S16 : Shape := ⟨1, ![16]⟩
abbrev S1 : Shape := ⟨1, ![1]⟩
abbrev S1x32x1024 : Shape := ⟨3, ![1, 32, 1024]⟩
abbrev S4x32x16 : Shape := ⟨3, ![4, 32, 16]⟩
abbrev S4x1x1024 : Shape := ⟨3, ![4, 1, 1024]⟩
abbrev S4x32x1 : Shape := ⟨3, ![4, 32, 1]⟩
abbrev S4x32x32 : Shape := ⟨3, ![4, 32, 32]⟩
abbrev S32x4x128 : Shape := ⟨3, ![32, 4, 128]⟩
abbrev S1x4x128 : Shape := ⟨3, ![1, 4, 128]⟩
abbrev S4x128 : Shape := ⟨2, ![4, 128]⟩
abbrev S128x1024 : Shape := ⟨2, ![128, 1024]⟩
abbrev S4x1024 : Shape := ⟨2, ![4, 1024]⟩

abbrev nBuf : Space → Nat
  | .hbm => 23
  | .vmem => 10
  | .smem => 0
  | _ => 0

abbrev bufTy : (tb : Table) → Fin (tcTables nBuf tb) → BufTy
  | .hbm, ⟨0, _⟩ => ⟨S4x1024x1024, .f32⟩
  | .hbm, ⟨1, _⟩ => ⟨S1024x32, .f32⟩
  | .hbm, ⟨2, _⟩ => ⟨S4x1024x32, .f32⟩
  | .hbm, ⟨3, _⟩ => ⟨S4x1024x32, .f32⟩
  | .hbm, ⟨4, _⟩ => ⟨S1024x32, .f32⟩
  | .hbm, ⟨5, _⟩ => ⟨S32x1024, .f32⟩
  | .hbm, ⟨6, _⟩ => ⟨S32x1024, .bf16⟩
  | .hbm, ⟨7, _⟩ => ⟨S1024x4x32, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S1x4x4x1, .f32⟩
  | .hbm, ⟨16, _⟩ => ⟨S1024x4x1x32, .f32⟩
  | .hbm, ⟨17, _⟩ => ⟨S1024x4x4x32, .f32⟩
  | .hbm, ⟨18, _⟩ => ⟨S1024x4x4x32, .f32⟩
  | .hbm, ⟨19, _⟩ => ⟨S1024x4x4x32, .f32⟩
  | .hbm, ⟨20, _⟩ => ⟨S1024x4x128, .f32⟩
  | .hbm, ⟨21, _⟩ => ⟨S1024x4x128, .bf16⟩
  | .hbm, ⟨22, _⟩ => ⟨S4x1024x1024, .f32⟩
  | .local _ .vmem, ⟨0, _⟩ => ⟨S4x1024x1024, .f32⟩
  | .local _ .vmem, ⟨1, _⟩ => ⟨S32x1024, .bf16⟩
  | .local _ .vmem, ⟨2, _⟩ => ⟨S4x1024x32, .f32⟩
  | .local _ .vmem, ⟨3, _⟩ => ⟨S1024x4x128, .bf16⟩
  | .local _ .vmem, ⟨4, _⟩ => ⟨S4x1024x1024, .f32⟩
  | .local _ .vmem, ⟨5, _⟩ => ⟨S4x16x1024, .f32⟩
  | .local _ .vmem, ⟨6, _⟩ => ⟨S4x16x32, .f32⟩
  | .local _ .vmem, ⟨7, _⟩ => ⟨S4x32x1024, .bf16⟩
  | .local _ .vmem, ⟨8, _⟩ => ⟨S4x512x1024, .bf16⟩
  | .local _ .vmem, ⟨9, _⟩ => ⟨S4x512x1024, .bf16⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 3 41 bufScoped semScoped dmaSemScoped tileCredit tileCredit_eq_zero tileCredit_pos).withBarriers [(7, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier7 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_2 v2
  let c2_i32_4 : BitVec 32 := 2#32
  let v9 : BitVec 32 := Scalar.muli v8 c2_i32_4
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v11 : BitVec 32 := Scalar.muli v5 c1_i32_5
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_6 v5
  let c1_i32_10 : BitVec 32 := 1#32
  let v16 : BitVec 32 := Scalar.muli v13 c1_i32_10
  let v17 : BitVec 32 := Scalar.addi v15 v16
  v17.toNat
def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_12 : BitVec 32 := 0#32
  let v18 : BitVec 1 := Scalar.cmpi .eq v2 c0_i32_12
  let v19 : BitVec 32 := Scalar.extui v18
  let c0_i32_13 : BitVec 32 := 0#32
  let v20 : BitVec 1 := Scalar.cmpi .ne v19 c0_i32_13
  v20

def k0_dev3 (d0 : Dev nD) : Nat :=
  let c0_i32_1531 : BitVec 32 := 0#32
  let c1_i32_1529 : BitVec 32 := 1#32
  let c2_i32_1530 : BitVec 32 := 2#32
  let v7679 : BitVec 32 := Scalar.muli c1_i32_1529 c2_i32_1530
  let v7680 : BitVec 32 := Scalar.addi c0_i32_1531 v7679
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1532 : BitVec 32 := 1#32
  let v7681 : BitVec 32 := Scalar.muli v5 c1_i32_1532
  let v7682 : BitVec 32 := Scalar.addi v7680 v7681
  v7682.toNat
def k0_dev4 (d0 : Dev nD) : Nat :=
  let c0_i32_1539 : BitVec 32 := 0#32
  let c1_i32_1537 : BitVec 32 := 1#32
  let c2_i32_1538 : BitVec 32 := 2#32
  let v7688 : BitVec 32 := Scalar.muli c1_i32_1537 c2_i32_1538
  let v7689 : BitVec 32 := Scalar.addi c0_i32_1539 v7688
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1540 : BitVec 32 := 1#32
  let v7690 : BitVec 32 := Scalar.muli v5 c1_i32_1540
  let v7691 : BitVec 32 := Scalar.addi v7689 v7690
  v7691.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_18 : BitVec 32 := 1#32
  let v28 : BitVec 1 := Scalar.cmpi .eq v2 c1_i32_18
  let v29 : BitVec 32 := Scalar.extui v28
  let c0_i32_19 : BitVec 32 := 0#32
  let v30 : BitVec 1 := Scalar.cmpi .ne v29 c0_i32_19
  v30

def k0_dev5 (d0 : Dev nD) : Nat :=
  let c0_i32_1547 : BitVec 32 := 0#32
  let c0_i32_1545 : BitVec 32 := 0#32
  let c2_i32_1546 : BitVec 32 := 2#32
  let v7693 : BitVec 32 := Scalar.muli c0_i32_1545 c2_i32_1546
  let v7694 : BitVec 32 := Scalar.addi c0_i32_1547 v7693
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1548 : BitVec 32 := 1#32
  let v7695 : BitVec 32 := Scalar.muli v5 c1_i32_1548
  let v7696 : BitVec 32 := Scalar.addi v7694 v7695
  v7696.toNat
def k0_off1 (d0 : Dev nD) (c0_i32_26 : BitVec 32) : Fin 3 → Nat :=
  let c0_27 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v39 : BitVec 32 := Scalar.addi v6 c0_i32_26
  let c0_i32_25 : BitVec 32 := 0#32
  let c32_i32 : BitVec 32 := 32#32
  let v40 : BitVec 32 := Scalar.muli c0_i32_25 c32_i32
  let v41 : BitVec 32 := Scalar.addi v39 v40
  let v42 : Index := Scalar.indexCast v41
  let c0_28 : Index := 0#32
  ![0, v42.toNat, 0]
def k0_off2 (d0 : Dev nD) (c0_i32_26 : BitVec 32) : Fin 3 → Nat :=
  let c0_29 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v39 : BitVec 32 := Scalar.addi v6 c0_i32_26
  let c0_i32_25 : BitVec 32 := 0#32
  let c32_i32 : BitVec 32 := 32#32
  let v40 : BitVec 32 := Scalar.muli c0_i32_25 c32_i32
  let v41 : BitVec 32 := Scalar.addi v39 v40
  let v46 : Index := Scalar.indexCast v41
  let c0_30 : Index := 0#32
  ![0, v46.toNat, 0]
def k0_off3 (d0 : Dev nD) (c0_i32_26 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v39 : BitVec 32 := Scalar.addi v6 c0_i32_26
  let c0_i32_25 : BitVec 32 := 0#32
  let c32_i32 : BitVec 32 := 32#32
  let v40 : BitVec 32 := Scalar.muli c0_i32_25 c32_i32
  let v41 : BitVec 32 := Scalar.addi v39 v40
  let v51 : Index := Scalar.indexCast v41
  let c0_31 : Index := 0#32
  let c0_32 : Index := 0#32
  ![v51.toNat, 0, 0]
def k0_off4 (c0_i32_74 : BitVec 32) : Fin 3 → Nat :=
  let c0_75 : Index := 0#32
  let c0_i32_25 : BitVec 32 := 0#32
  let c32_i32_73 : BitVec 32 := 32#32
  let v478 : BitVec 32 := Scalar.muli c0_i32_25 c32_i32_73
  let v479 : BitVec 32 := Scalar.addi c0_i32_74 v478
  let v480 : Index := Scalar.indexCast v479
  let c0_76 : Index := 0#32
  ![0, v480.toNat, 0]
def k0_dev6 (d0 : Dev nD) : Nat :=
  let c0_i32_82 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_81 : BitVec 32 := 2#32
  let v485 : BitVec 32 := Scalar.muli v2 c2_i32_81
  let v486 : BitVec 32 := Scalar.addi c0_i32_82 v485
  let c1_i32_78 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v484 : BitVec 32 := Scalar.subi c1_i32_78 v5
  let c1_i32_83 : BitVec 32 := 1#32
  let v487 : BitVec 32 := Scalar.muli v484 c1_i32_83
  let v488 : BitVec 32 := Scalar.addi v486 v487
  v488.toNat
def k0_dev7 (d0 : Dev nD) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v941 : BitVec 32 := Scalar.muli v2 c2_i32_147
  let v942 : BitVec 32 := Scalar.addi c0_i32_148 v941
  let c1_i32_144 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v940 : BitVec 32 := Scalar.subi c1_i32_144 v5
  let c1_i32_149 : BitVec 32 := 1#32
  let v943 : BitVec 32 := Scalar.muli v940 c1_i32_149
  let v944 : BitVec 32 := Scalar.addi v942 v943
  v944.toNat
def k0_dev8 (d0 : Dev nD) : Nat :=
  let c0_i32_213 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_212 : BitVec 32 := 2#32
  let v1397 : BitVec 32 := Scalar.muli v2 c2_i32_212
  let v1398 : BitVec 32 := Scalar.addi c0_i32_213 v1397
  let c1_i32_209 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1396 : BitVec 32 := Scalar.subi c1_i32_209 v5
  let c1_i32_214 : BitVec 32 := 1#32
  let v1399 : BitVec 32 := Scalar.muli v1396 c1_i32_214
  let v1400 : BitVec 32 := Scalar.addi v1398 v1399
  v1400.toNat
def k0_dev9 (d0 : Dev nD) : Nat :=
  let c0_i32_277 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_276 : BitVec 32 := 2#32
  let v1853 : BitVec 32 := Scalar.muli v2 c2_i32_276
  let v1854 : BitVec 32 := Scalar.addi c0_i32_277 v1853
  let c1_i32_274 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1852 : BitVec 32 := Scalar.subi c1_i32_274 v5
  let c1_i32_278 : BitVec 32 := 1#32
  let v1855 : BitVec 32 := Scalar.muli v1852 c1_i32_278
  let v1856 : BitVec 32 := Scalar.addi v1854 v1855
  v1856.toNat
def k0_dev10 (d0 : Dev nD) : Nat :=
  let c0_i32_341 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_340 : BitVec 32 := 2#32
  let v2309 : BitVec 32 := Scalar.muli v2 c2_i32_340
  let v2310 : BitVec 32 := Scalar.addi c0_i32_341 v2309
  let c1_i32_338 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2308 : BitVec 32 := Scalar.subi c1_i32_338 v5
  let c1_i32_342 : BitVec 32 := 1#32
  let v2311 : BitVec 32 := Scalar.muli v2308 c1_i32_342
  let v2312 : BitVec 32 := Scalar.addi v2310 v2311
  v2312.toNat
def k0_dev11 (d0 : Dev nD) : Nat :=
  let c0_i32_405 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_404 : BitVec 32 := 2#32
  let v2765 : BitVec 32 := Scalar.muli v2 c2_i32_404
  let v2766 : BitVec 32 := Scalar.addi c0_i32_405 v2765
  let c1_i32_402 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2764 : BitVec 32 := Scalar.subi c1_i32_402 v5
  let c1_i32_406 : BitVec 32 := 1#32
  let v2767 : BitVec 32 := Scalar.muli v2764 c1_i32_406
  let v2768 : BitVec 32 := Scalar.addi v2766 v2767
  v2768.toNat
def k0_dev12 (d0 : Dev nD) : Nat :=
  let c0_i32_469 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_468 : BitVec 32 := 2#32
  let v3221 : BitVec 32 := Scalar.muli v2 c2_i32_468
  let v3222 : BitVec 32 := Scalar.addi c0_i32_469 v3221
  let c1_i32_466 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v3220 : BitVec 32 := Scalar.subi c1_i32_466 v5
  let c1_i32_470 : BitVec 32 := 1#32
  let v3223 : BitVec 32 := Scalar.muli v3220 c1_i32_470
  let v3224 : BitVec 32 := Scalar.addi v3222 v3223
  v3224.toNat
def k0_dev13 (d0 : Dev nD) : Nat :=
  let c0_i32_533 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_532 : BitVec 32 := 2#32
  let v3677 : BitVec 32 := Scalar.muli v2 c2_i32_532
  let v3678 : BitVec 32 := Scalar.addi c0_i32_533 v3677
  let c1_i32_530 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v3676 : BitVec 32 := Scalar.subi c1_i32_530 v5
  let c1_i32_534 : BitVec 32 := 1#32
  let v3679 : BitVec 32 := Scalar.muli v3676 c1_i32_534
  let v3680 : BitVec 32 := Scalar.addi v3678 v3679
  v3680.toNat
def k0_dev14 (d0 : Dev nD) : Nat :=
  let c0_i32_597 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_596 : BitVec 32 := 2#32
  let v4133 : BitVec 32 := Scalar.muli v2 c2_i32_596
  let v4134 : BitVec 32 := Scalar.addi c0_i32_597 v4133
  let c1_i32_594 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v4132 : BitVec 32 := Scalar.subi c1_i32_594 v5
  let c1_i32_598 : BitVec 32 := 1#32
  let v4135 : BitVec 32 := Scalar.muli v4132 c1_i32_598
  let v4136 : BitVec 32 := Scalar.addi v4134 v4135
  v4136.toNat
def k0_dev15 (d0 : Dev nD) : Nat :=
  let c0_i32_661 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_660 : BitVec 32 := 2#32
  let v4589 : BitVec 32 := Scalar.muli v2 c2_i32_660
  let v4590 : BitVec 32 := Scalar.addi c0_i32_661 v4589
  let c1_i32_658 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v4588 : BitVec 32 := Scalar.subi c1_i32_658 v5
  let c1_i32_662 : BitVec 32 := 1#32
  let v4591 : BitVec 32 := Scalar.muli v4588 c1_i32_662
  let v4592 : BitVec 32 := Scalar.addi v4590 v4591
  v4592.toNat
def k0_dev16 (d0 : Dev nD) : Nat :=
  let c0_i32_725 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_724 : BitVec 32 := 2#32
  let v5045 : BitVec 32 := Scalar.muli v2 c2_i32_724
  let v5046 : BitVec 32 := Scalar.addi c0_i32_725 v5045
  let c1_i32_722 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v5044 : BitVec 32 := Scalar.subi c1_i32_722 v5
  let c1_i32_726 : BitVec 32 := 1#32
  let v5047 : BitVec 32 := Scalar.muli v5044 c1_i32_726
  let v5048 : BitVec 32 := Scalar.addi v5046 v5047
  v5048.toNat
def k0_dev17 (d0 : Dev nD) : Nat :=
  let c0_i32_789 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_788 : BitVec 32 := 2#32
  let v5501 : BitVec 32 := Scalar.muli v2 c2_i32_788
  let v5502 : BitVec 32 := Scalar.addi c0_i32_789 v5501
  let c1_i32_786 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v5500 : BitVec 32 := Scalar.subi c1_i32_786 v5
  let c1_i32_790 : BitVec 32 := 1#32
  let v5503 : BitVec 32 := Scalar.muli v5500 c1_i32_790
  let v5504 : BitVec 32 := Scalar.addi v5502 v5503
  v5504.toNat
def k0_dev18 (d0 : Dev nD) : Nat :=
  let c0_i32_853 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_852 : BitVec 32 := 2#32
  let v5957 : BitVec 32 := Scalar.muli v2 c2_i32_852
  let v5958 : BitVec 32 := Scalar.addi c0_i32_853 v5957
  let c1_i32_850 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v5956 : BitVec 32 := Scalar.subi c1_i32_850 v5
  let c1_i32_854 : BitVec 32 := 1#32
  let v5959 : BitVec 32 := Scalar.muli v5956 c1_i32_854
  let v5960 : BitVec 32 := Scalar.addi v5958 v5959
  v5960.toNat
def k0_dev19 (d0 : Dev nD) : Nat :=
  let c0_i32_917 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_916 : BitVec 32 := 2#32
  let v6413 : BitVec 32 := Scalar.muli v2 c2_i32_916
  let v6414 : BitVec 32 := Scalar.addi c0_i32_917 v6413
  let c1_i32_914 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6412 : BitVec 32 := Scalar.subi c1_i32_914 v5
  let c1_i32_918 : BitVec 32 := 1#32
  let v6415 : BitVec 32 := Scalar.muli v6412 c1_i32_918
  let v6416 : BitVec 32 := Scalar.addi v6414 v6415
  v6416.toNat
def k0_dev20 (d0 : Dev nD) : Nat :=
  let c0_i32_981 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_980 : BitVec 32 := 2#32
  let v6869 : BitVec 32 := Scalar.muli v2 c2_i32_980
  let v6870 : BitVec 32 := Scalar.addi c0_i32_981 v6869
  let c1_i32_978 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6868 : BitVec 32 := Scalar.subi c1_i32_978 v5
  let c1_i32_982 : BitVec 32 := 1#32
  let v6871 : BitVec 32 := Scalar.muli v6868 c1_i32_982
  let v6872 : BitVec 32 := Scalar.addi v6870 v6871
  v6872.toNat
def k0_dev21 (d0 : Dev nD) : Nat :=
  let c0_i32_1045 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1044 : BitVec 32 := 2#32
  let v7325 : BitVec 32 := Scalar.muli v2 c2_i32_1044
  let v7326 : BitVec 32 := Scalar.addi c0_i32_1045 v7325
  let c1_i32_1042 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7324 : BitVec 32 := Scalar.subi c1_i32_1042 v5
  let c1_i32_1046 : BitVec 32 := 1#32
  let v7327 : BitVec 32 := Scalar.muli v7324 c1_i32_1046
  let v7328 : BitVec 32 := Scalar.addi v7326 v7327
  v7328.toNat
def k0_off5 (d0 : Dev nD) (c0_i32_1070 : BitVec 32) : Fin 3 → Nat :=
  let c0_1071 : Index := 0#32
  let c1_i32_1068 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7346 : BitVec 32 := Scalar.subi c1_i32_1068 v5
  let c512_i32_1069 : BitVec 32 := 512#32
  let v7347 : BitVec 32 := Scalar.muli v7346 c512_i32_1069
  let v7348 : BitVec 32 := Scalar.addi v7347 c0_i32_1070
  let v7349 : Index := Scalar.indexCast v7348
  let c0_1072 : Index := 0#32
  ![0, v7349.toNat, 0]
def k0_dev22 (d0 : Dev nD) : Nat :=
  let c0_i32_1523 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1522 : BitVec 32 := 2#32
  let v7675 : BitVec 32 := Scalar.muli v2 c2_i32_1522
  let v7676 : BitVec 32 := Scalar.addi c0_i32_1523 v7675
  let c1_i32_1520 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7674 : BitVec 32 := Scalar.subi c1_i32_1520 v5
  let c1_i32_1524 : BitVec 32 := 1#32
  let v7677 : BitVec 32 := Scalar.muli v7674 c1_i32_1524
  let v7678 : BitVec 32 := Scalar.addi v7676 v7677
  v7678.toNat
abbrev stage0_0 : Fin 1 → Memref sig .tc .vmem S4x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x2048x1024 : Shape := ⟨3, ![4, 2048, 1024]⟩
abbrev S1024x32 : Shape := ⟨2, ![1024, 32]⟩
abbrev S4x2048x32 : Shape := ⟨3, ![4, 2048, 32]⟩
abbrev S_ : Shape := ⟨0, ![]⟩
abbrev S4x2064x1024 : Shape := ⟨3, ![4, 2064, 1024]⟩
abbrev S4x528x1024 : Shape := ⟨3, ![4, 528, 1024]⟩
abbrev S4x1x528x1024 : Shape := ⟨4, ![4, 1, 528, 1024]⟩
abbrev S4x4x528x1024 : Shape := ⟨4, ![4, 4, 528, 1024]⟩
abbrev S4x2064x32 : Shape := ⟨3, ![4, 2064, 32]⟩
abbrev S4x528x32 : Shape := ⟨3, ![4, 528, 32]⟩
abbrev S4x1x528x32 : Shape := ⟨4, ![4, 1, 528, 32]⟩
abbrev S4x4x528x32 : Shape := ⟨4, ![4, 4, 528, 32]⟩
abbrev S1x1x1024x32 : Shape := ⟨4, ![1, 1, 1024, 32]⟩
abbrev S4x4x1024x32 : Shape := ⟨4, ![4, 4, 1024, 32]⟩
abbrev S4x4x1x1024 : Shape := ⟨4, ![4, 4, 1, 1024]⟩
abbrev S4x4x1024 : Shape := ⟨3, ![4, 4, 1024]⟩
abbrev S4x4x1024x1 : Shape := ⟨4, ![4, 4, 1024, 1]⟩
abbrev S4x4x1x32 : Shape := ⟨4, ![4, 4, 1, 32]⟩
abbrev S4x4x32 : Shape := ⟨3, ![4, 4, 32]⟩
abbrev S4x4x512x1024 : Shape := ⟨4, ![4, 4, 512, 1024]⟩

abbrev nBuf : Space → Nat
  | .hbm => 184
  | .vmem => 0
  | .smem => 0
  | _ => 0

abbrev hbmTy0_0 (i : Nat) : BufTy := match i % 128 with
  | 0 => ⟨S4x2048x1024, .f32⟩
  | 1 => ⟨S1024x32, .f32⟩
  | 2 => ⟨S4x2048x32, .f32⟩
  | 3 => ⟨S4x2048x32, .f32⟩
  | 4 => ⟨S_, .i32⟩
  | 5 => ⟨S_, .f32⟩
  | 6 => ⟨S4x2064x1024, .f32⟩
  | 7 => ⟨S4x528x1024, .f32⟩
  | 8 => ⟨S4x528x1024, .f32⟩
  | 9 => ⟨S4x528x1024, .f32⟩
  | 10 => ⟨S4x528x1024, .f32⟩
  | 11 => ⟨S4x1x528x1024, .f32⟩
  | 12 => ⟨S4x1x528x1024, .f32⟩
  | 13 => ⟨S4x1x528x1024, .f32⟩
  | 14 => ⟨S4x1x528x1024, .f32⟩
  | 15 => ⟨S4x4x528x1024, .f32⟩
  | 16 => ⟨S_, .i32⟩
  | 17 => ⟨S_, .f32⟩
  | 18 => ⟨S4x2064x32, .f32⟩
  | 19 => ⟨S4x528x32, .f32⟩
  | 20 => ⟨S4x528x32, .f32⟩
  | 21 => ⟨S4x528x32, .f32⟩
  | 22 => ⟨S4x528x32, .f32⟩
  | 23 => ⟨S4x1x528x32, .f32⟩
  | 24 => ⟨S4x1x528x32, .f32⟩
  | 25 => ⟨S4x1x528x32, .f32⟩
  | 26 => ⟨S4x1x528x32, .f32⟩
  | 27 => ⟨S4x4x528x32, .f32⟩
  | 28 => ⟨S_, .i32⟩
  | 29 => ⟨S_, .f32⟩
  | 30 => ⟨S4x2064x32, .f32⟩
  | 31 => ⟨S4x528x32, .f32⟩
  | 32 => ⟨S4x528x32, .f32⟩
  | 33 => ⟨S4x528x32, .f32⟩
  | 34 => ⟨S4x528x32, .f32⟩
  | 35 => ⟨S4x1x528x32, .f32⟩
  | 36 => ⟨S4x1x528x32, .f32⟩
  | 37 => ⟨S4x1x528x32, .f32⟩
  | 38 => ⟨S4x1x528x32, .f32⟩
  | 39 => ⟨S4x4x528x32, .f32⟩
  | 40 => ⟨S1024x32, .f32⟩
  | 41 => ⟨S1x1x1024x32, .f32⟩
  | 42 => ⟨S_, .f32⟩
  | 43 => ⟨S4x4x1024x32, .f32⟩
  | 44 => ⟨S_, .f32⟩
  | 45 => ⟨S4x4x528x1024, .f32⟩
  | 46 => ⟨S_, .i32⟩
  | 47 => ⟨S_, .i32⟩
  | 48 => ⟨S1x1x1024x32, .f32⟩
  | 49 => ⟨S4x4x528x1024, .f32⟩
  | 50 => ⟨S4x4x528x32, .f32⟩
  | 51 => ⟨S4x4x528x32, .f32⟩
  | 52 => ⟨S_, .i32⟩
  | 53 => ⟨S_, .i32⟩
  | 54 => ⟨S4x4x1024x32, .f32⟩
  | 55 => ⟨S4x4x528x1024, .f32⟩
  | 56 => ⟨S_, .i32⟩
  | 57 => ⟨S_, .i1⟩
  | 58 => ⟨S_, .i32⟩
  | 59 => ⟨S_, .i32⟩
  | 60 => ⟨S4x4x1024x32, .f32⟩
  | 61 => ⟨S4x4x1024x32, .f32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S4x4x1x1024, .f32⟩
  | 93 => ⟨S4x4x1024, .f32⟩
  | 94 => ⟨S4x4x1024x1, .f32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S4x4x1x32, .f32⟩
  | 126 => ⟨S4x4x32, .f32⟩
  | 127 => ⟨S4x4x1x32, .f32⟩
  | _ => ⟨S4x2048x1024, .f32⟩

abbrev hbmTy0_1 (i : Nat) : BufTy := match i % 128 with
  | 0 => ⟨S4x4x1024x32, .f32⟩
  | 1 => ⟨S4x4x1024x32, .f32⟩
  | 2 => ⟨S4x4x1024x32, .f32⟩
  | 3 => ⟨S4x4x1024x32, .f32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S4x4x1x32, .f32⟩
  | 35 => ⟨S4x4x32, .f32⟩
  | 36 => ⟨S4x4x1x32, .f32⟩
  | 37 => ⟨S4x4x1024x32, .f32⟩
  | 38 => ⟨S4x4x1024x32, .f32⟩
  | 39 => ⟨S_, .f32⟩
  | 40 => ⟨S4x4x1024, .f32⟩
  | 41 => ⟨S4x4x1x1024, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S4x4x528x1024, .f32⟩
  | 52 => ⟨S_, .i32⟩
  | 53 => ⟨S_, .i32⟩
  | 54 => ⟨S4x4x512x1024, .f32⟩
  | 55 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call2_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_c_3 : Ref sig .tc := ⟨.hbm, 46, rfl⟩
abbrev main_c_4 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev main_v34_3 : Ref sig .tc := ⟨.hbm, 51, rfl⟩
abbrev main_v34_4 : Ref sig .tc := ⟨.hbm, 52, rfl⟩
abbrev main_v34_5 : Ref sig .tc := ⟨.hbm, 53, rfl⟩
abbrev main_v34_6 : Ref sig .tc := ⟨.hbm, 54, rfl⟩
abbrev main_v34_7 : Ref sig .tc := ⟨.hbm, 55, rfl⟩
abbrev main_while0c_c_12 : Ref sig .tc := ⟨.hbm, 56, rfl⟩
abbrev main_while0c_v37 : Ref sig .tc := ⟨.hbm, 57, rfl⟩
abbrev main_while0b_c_12 : Ref sig .tc := ⟨.hbm, 58, rfl⟩
abbrev main_while0b_v37 : Ref sig .tc := ⟨.hbm, 59, rfl⟩
abbrev main_while0b_v38 : Ref sig .tc := ⟨.hbm, 60, rfl⟩
abbrev main_while0b_v39 : Ref sig .tc := ⟨.hbm, 61, rfl⟩
abbrev main_while0b_v40 : Ref sig .tc := ⟨.hbm, 62, rfl⟩
abbrev main_while0b_c_13 : Ref sig .tc := ⟨.hbm, 63, rfl⟩
abbrev main_while0b_c_14 : Ref sig .tc := ⟨.hbm, 64, rfl⟩
abbrev main_while0b_v41 : Ref sig .tc := ⟨.hbm, 65, rfl⟩
abbrev main_while0b_c_15 : Ref sig .tc := ⟨.hbm, 66, rfl⟩
abbrev main_while0b_c_16 : Ref sig .tc := ⟨.hbm, 67, rfl⟩
abbrev main_while0b_v42 : Ref sig .tc := ⟨.hbm, 68, rfl⟩
abbrev main_while0b_c_17 : Ref sig .tc := ⟨.hbm, 69, rfl⟩
abbrev main_while0b_v43 : Ref sig .tc := ⟨.hbm, 70, rfl⟩
abbrev main_while0b_c_18 : Ref sig .tc := ⟨.hbm, 71, rfl⟩
abbrev main_while0b_c_19 : Ref sig .tc := ⟨.hbm, 72, rfl⟩
abbrev main_while0b_v44 : Ref sig .tc := ⟨.hbm, 73, rfl⟩
abbrev main_while0b_c_20 : Ref sig .tc := ⟨.hbm, 74, rfl⟩
abbrev main_while0b_c_21 : Ref sig .tc := ⟨.hbm, 75, rfl⟩
abbrev main_while0b_v45 : Ref sig .tc := ⟨.hbm, 76, rfl⟩
abbrev main_while0b_c_22 : Ref sig .tc := ⟨.hbm, 77, rfl⟩
abbrev main_while0b_v46 : Ref sig .tc := ⟨.hbm, 78, rfl⟩
abbrev main_while0b_c_23 : Ref sig .tc := ⟨.hbm, 79, rfl⟩
abbrev main_while0b_v47 : Ref sig .tc := ⟨.hbm, 80, rfl⟩
abbrev main_while0b_c_24 : Ref sig .tc := ⟨.hbm, 81, rfl⟩
abbrev main_while0b_v48 : Ref sig .tc := ⟨.hbm, 82, rfl⟩
abbrev main_while0b_v49 : Ref sig .tc := ⟨.hbm, 83, rfl⟩
abbrev main_while0b_c_25 : Ref sig .tc := ⟨.hbm, 84, rfl⟩
abbrev main_while0b_c_26 : Ref sig .tc := ⟨.hbm, 85, rfl⟩
abbrev main_while0b_v50 : Ref sig .tc := ⟨.hbm, 86, rfl⟩
abbrev main_while0b_c_27 : Ref sig .tc := ⟨.hbm, 87, rfl⟩
abbrev main_while0b_c_28 : Ref sig .tc := ⟨.hbm, 88, rfl⟩
abbrev main_while0b_v51 : Ref sig .tc := ⟨.hbm, 89, rfl⟩
abbrev main_while0b_c_29 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_c_30 : Ref sig .tc := ⟨.hbm, 96, rfl⟩
abbrev main_while0b_c_31 : Ref sig .tc := ⟨.hbm, 97, rfl⟩
abbrev main_while0b_v57 : Ref sig .tc := ⟨.hbm, 98, rfl⟩
abbrev main_while0b_c_32 : Ref sig .tc := ⟨.hbm, 99, rfl⟩
abbrev main_while0b_c_33 : Ref sig .tc := ⟨.hbm, 100, rfl⟩
abbrev main_while0b_v58 : Ref sig .tc := ⟨.hbm, 101, rfl⟩
abbrev main_while0b_c_34 : Ref sig .tc := ⟨.hbm, 102, rfl⟩
abbrev main_while0b_v59 : Ref sig .tc := ⟨.hbm, 103, rfl⟩
abbrev main_while0b_c_35 : Ref sig .tc := ⟨.hbm, 104, rfl⟩
abbrev main_while0b_c_36 : Ref sig .tc := ⟨.hbm, 105, rfl⟩
abbrev main_while0b_v60 : Ref sig .tc := ⟨.hbm, 106, rfl⟩
abbrev main_while0b_c_37 : Ref sig .tc := ⟨.hbm, 107, rfl⟩
abbrev main_while0b_c_38 : Ref sig .tc := ⟨.hbm, 108, rfl⟩
abbrev main_while0b_v61 : Ref sig .tc := ⟨.hbm, 109, rfl⟩
abbrev main_while0b_c_39 : Ref sig .tc := ⟨.hbm, 110, rfl⟩
abbrev main_while0b_v62 : Ref sig .tc := ⟨.hbm, 111, rfl⟩
abbrev main_while0b_c_40 : Ref sig .tc := ⟨.hbm, 112, rfl⟩
abbrev main_while0b_v63 : Ref sig .tc := ⟨.hbm, 113, rfl⟩
abbrev main_while0b_c_41 : Ref sig .tc := ⟨.hbm, 114, rfl⟩
abbrev main_while0b_v64 : Ref sig .tc := ⟨.hbm, 115, rfl⟩
abbrev main_while0b_v65 : Ref sig .tc := ⟨.hbm, 116, rfl⟩
abbrev main_while0b_c_42 : Ref sig .tc := ⟨.hbm, 117, rfl⟩
abbrev main_while0b_c_43 : Ref sig .tc := ⟨.hbm, 118, rfl⟩
abbrev main_while0b_v66 : Ref sig .tc := ⟨.hbm, 119, rfl⟩
abbrev main_while0b_c_44 : Ref sig .tc := ⟨.hbm, 120, rfl⟩
abbrev main_while0b_c_45 : Ref sig .tc := ⟨.hbm, 121, rfl⟩
abbrev main_while0b_v67 : Ref sig .tc := ⟨.hbm, 122, rfl⟩
abbrev main_while0b_c_46 : Ref sig .tc := ⟨.hbm, 123, rfl⟩
abbrev main_while0b_v68 : Ref sig .tc := ⟨.hbm, 124, rfl⟩
abbrev main_while0b_v69 : Ref sig .tc := ⟨.hbm, 125, rfl⟩
abbrev main_while0b_v70 : Ref sig .tc := ⟨.hbm, 126, rfl⟩
abbrev main_while0b_v71 : Ref sig .tc := ⟨.hbm, 127, rfl⟩
abbrev main_while0b_v72 : Ref sig .tc := ⟨.hbm, 128, rfl⟩
abbrev main_while0b_v73 : Ref sig .tc := ⟨.hbm, 129, rfl⟩
abbrev main_while0b_v74 : Ref sig .tc := ⟨.hbm, 130, rfl⟩
abbrev main_while0b_v75 : Ref sig .tc := ⟨.hbm, 131, rfl⟩
abbrev main_while0b_v76 : Ref sig .tc := ⟨.hbm, 132, rfl⟩
abbrev main_while0b_c_47 : Ref sig .tc := ⟨.hbm, 133, rfl⟩
abbrev main_while0b_c_48 : Ref sig .tc := ⟨.hbm, 134, rfl⟩
abbrev main_while0b_v77 : Ref sig .tc := ⟨.hbm, 135, rfl⟩
abbrev main_while0b_c_49 : Ref sig .tc := ⟨.hbm, 136, rfl⟩
abbrev main_while0b_c_50 : Ref sig .tc := ⟨.hbm, 137, rfl⟩
abbrev main_while0b_v78 : Ref sig .tc := ⟨.hbm, 138, rfl⟩
abbrev main_while0b_c_51 : Ref sig .tc := ⟨.hbm, 139, rfl⟩
abbrev main_while0b_v79 : Ref sig .tc := ⟨.hbm, 140, rfl⟩
abbrev main_while0b_c_52 : Ref sig .tc := ⟨.hbm, 141, rfl⟩
abbrev main_while0b_c_53 : Ref sig .tc := ⟨.hbm, 142, rfl⟩
abbrev main_while0b_v80 : Ref sig .tc := ⟨.hbm, 143, rfl⟩
abbrev main_while0b_c_54 : Ref sig .tc := ⟨.hbm, 144, rfl⟩
abbrev main_while0b_c_55 : Ref sig .tc := ⟨.hbm, 145, rfl⟩
abbrev main_while0b_v81 : Ref sig .tc := ⟨.hbm, 146, rfl⟩
abbrev main_while0b_c_56 : Ref sig .tc := ⟨.hbm, 147, rfl⟩
abbrev main_while0b_v82 : Ref sig .tc := ⟨.hbm, 148, rfl⟩
abbrev main_while0b_c_57 : Ref sig .tc := ⟨.hbm, 149, rfl⟩
abbrev main_while0b_v83 : Ref sig .tc := ⟨.hbm, 150, rfl⟩
abbrev main_while0b_c_58 : Ref sig .tc := ⟨.hbm, 151, rfl⟩
abbrev main_while0b_v84 : Ref sig .tc := ⟨.hbm, 152, rfl⟩
abbrev main_while0b_v85 : Ref sig .tc := ⟨.hbm, 153, rfl⟩
abbrev main_while0b_c_59 : Ref sig .tc := ⟨.hbm, 154, rfl⟩
abbrev main_while0b_c_60 : Ref sig .tc := ⟨.hbm, 155, rfl⟩
abbrev main_while0b_v86 : Ref sig .tc := ⟨.hbm, 156, rfl⟩
abbrev main_while0b_c_61 : Ref sig .tc := ⟨.hbm, 157, rfl⟩
abbrev main_while0b_c_62 : Ref sig .tc := ⟨.hbm, 158, rfl⟩
abbrev main_while0b_v87 : Ref sig .tc := ⟨.hbm, 159, rfl⟩
abbrev main_while0b_c_63 : Ref sig .tc := ⟨.hbm, 160, rfl⟩
abbrev main_while0b_v88 : Ref sig .tc := ⟨.hbm, 161, rfl⟩
abbrev main_while0b_v89 : Ref sig .tc := ⟨.hbm, 162, rfl⟩
abbrev main_while0b_v90 : Ref sig .tc := ⟨.hbm, 163, rfl⟩
abbrev main_while0b_v91 : Ref sig .tc := ⟨.hbm, 164, rfl⟩
abbrev main_while0b_v92 : Ref sig .tc := ⟨.hbm, 165, rfl⟩
abbrev main_while0b_v93 : Ref sig .tc := ⟨.hbm, 166, rfl⟩
abbrev main_while0b_cst_64 : Ref sig .tc := ⟨.hbm, 167, rfl⟩
abbrev main_while0b_v94 : Ref sig .tc := ⟨.hbm, 168, rfl⟩
abbrev main_while0b_call3_v0 : Ref sig .tc := ⟨.hbm, 169, rfl⟩
abbrev main_while0b_call3_c : Ref sig .tc := ⟨.hbm, 170, rfl⟩
abbrev main_while0b_call3_v1 : Ref sig .tc := ⟨.hbm, 171, rfl⟩
abbrev main_while0b_call3_v2 : Ref sig .tc := ⟨.hbm, 172, rfl⟩
abbrev main_while0b_call3_c_0 : Ref sig .tc := ⟨.hbm, 173, rfl⟩
abbrev main_while0b_call3_v3 : Ref sig .tc := ⟨.hbm, 174, rfl⟩
abbrev main_while0b_call3_v4 : Ref sig .tc := ⟨.hbm, 175, rfl⟩
abbrev main_while0b_call3_c_1 : Ref sig .tc := ⟨.hbm, 176, rfl⟩
abbrev main_while0b_call3_c_2 : Ref sig .tc := ⟨.hbm, 177, rfl⟩
abbrev main_while0b_call3_c_3 : Ref sig .tc := ⟨.hbm, 178, rfl⟩
abbrev main_while0b_v95 : Ref sig .tc := ⟨.hbm, 179, rfl⟩
abbrev main_while0b_c_65 : Ref sig .tc := ⟨.hbm, 180, rfl⟩
abbrev main_while0b_v96 : Ref sig .tc := ⟨.hbm, 181, rfl⟩
abbrev main_v35 : Ref sig .tc := ⟨.hbm, 182, rfl⟩
abbrev main_v36 : Ref sig .tc := ⟨.hbm, 183, rfl⟩

abbrev nD : Nat := 1
abbrev τ : Topo := Topo.v7x

variable {F : FTy → Type} [FloatOps F]

abbrev main_while0_count : Scf.Loop 32 := ⟨0#32, 528#32, 1#32⟩
-- ==== Proof.Ideal.Body.lean ====
/-
The kernel's body on one device, written again by its parts.

The printed body is one straight program in which the sixteen pieces of the scan stand unrolled. Here each piece is a
function of its number, each wait too, and the body is their composition in the same order. `body_eq` says that the
printed body and this one are the same program: every load, store, transfer, signal and wait agrees, argument by
argument, on each of the four devices.

Names. A device's place on the mesh is `(c / 2, c % 2)`; `xn c` and `yn c` are its neighbours along the two axes.
The rows of a device's block are taken in pieces of 32; the device scans rows `512 * (c % 2) + 32 * p` on, and takes
the other half of its rows from `yn c`.
-/
module

public import proofs.«01_k».proof.Proof.Gen.KernelIdeal
public import Idealize.ShloMosaic.Lib.Tactic

@[expose] public section

noncomputable section

namespace Cert.KernelIdeal.Scan

open Cert.KernelIdeal Cert.KernelIdeal.Gen
open Idealize.ShloMosaic Idealize.ShloMosaic.TcCoe Idealize.SL.Sem

variable {F : FTy → Type} [FloatOps F]

/-! ## The mesh -/

/-- The neighbour along the mesh's first axis. -/
def xn (c : Dev nD) : Dev nD := ⟨2 * (1 - c.val / 2) + c.val % 2, by have := c.isLt; show _ < 4; omega⟩
/-- The neighbour along the mesh's second axis. -/
def yn (c : Dev nD) : Dev nD := ⟨2 * (c.val / 2) + (1 - c.val % 2), by have := c.isLt; have h : c.val < 4 := c.isLt; show _ < 4; omega⟩

/-! ## The buffers and semaphores the body names -/

/-- The staged operands and the result's staging buffer. -/
abbrev mX : Memref sig .tc .vmem S4x1024x1024 .f32 := Memref.whole cc0_stg0_0
abbrev mA : Memref sig .tc .vmem S32x1024 .bf16 := Memref.whole cc0_stg1_0
abbrev mB : Memref sig .tc .vmem S4x1024x32 .f32 := Memref.whole cc0_stg2_0
abbrev mL : Memref sig .tc .vmem S1024x4x128 .bf16 := Memref.whole cc0_stg3_0
abbrev mY : Memref sig .tc .vmem S4x1024x1024 .f32 := Memref.whole cc0_stg4_0
/-- The rows the state is warmed up on, the state, and the two buffers of the exchange along the second axis. -/
abbrev mHX : Memref sig .tc .vmem S4x16x1024 .f32 := Memref.whole cc0_scratch0
abbrev mHB : Memref sig .tc .vmem S4x16x32 .f32 := Memref.whole cc0_scratch1
abbrev mH : Memref sig .tc .vmem S4x32x1024 .bf16 := Memref.whole cc0_scratch2
abbrev mSO : Memref sig .tc .vmem S4x512x1024 .bf16 := Memref.whole cc0_scratch3
abbrev mSI : Memref sig .tc .vmem S4x512x1024 .bf16 := Memref.whole cc0_scratch4

/-- The entry barrier's semaphore. -/
def barS : Sem sig := ⟨2, by decide⟩
/-- The semaphore by which the second row of devices says that it has taken the rows it was sent. -/
def ackS : Sem sig := ⟨0, by decide⟩
/-- The exit handshake's semaphore. -/
def exitS : Sem sig := ⟨1, by decide⟩
/-- The two transfers of the warm-up rows: their send and receive semaphores. -/
def hsS (i : Fin 2) : DmaSem sig := ⟨5 + i.val, by have := i.isLt; show _ < 41; omega⟩
def hrS (i : Fin 2) : DmaSem sig := ⟨7 + i.val, by have := i.isLt; show _ < 41; omega⟩
/-- The sixteen transfers of the exchange: their send and receive semaphores. -/
def psS (p : Fin 16) : DmaSem sig := ⟨9 + p.val, by have := p.isLt; show _ < 41; omega⟩
def prS (p : Fin 16) : DmaSem sig := ⟨25 + p.val, by have := p.isLt; show _ < 41; omega⟩

/-! ## The rectangles -/

/-- The rows of piece `p` in half `h` of a block. -/
def row (h : Nat) (p : Fin 16) : Nat := 512 * (h % 2) + 32 * p.val

theorem row_le (h : Nat) (p : Fin 16) : row h p + 32 ≤ 1024 := by
  have := p.isLt; have := Nat.mod_lt h (show 0 < 2 by decide); unfold row; omega

theorem rX_inb (h : Nat) (p : Fin 16) : ∀ a, (![0, row h p, 0] : Fin 3 → Nat) a + S4x32x1024.size a ≤ S4x1024x1024.size a := by
  have := row_le h p
  intro a; fin_cases a
  · exact Nat.le_refl 4
  · exact this
  · exact Nat.le_refl 1024
theorem rB_inb (h : Nat) (p : Fin 16) : ∀ a, (![0, row h p, 0] : Fin 3 → Nat) a + S4x32x32.size a ≤ S4x1024x32.size a := by
  have := row_le h p
  intro a; fin_cases a
  · exact Nat.le_refl 4
  · exact this
  · exact Nat.le_refl 32
theorem rL_inb (h : Nat) (p : Fin 16) : ∀ a, (![row h p, 0, 0] : Fin 3 → Nat) a + S32x4x128.size a ≤ S1024x4x128.size a := by
  have := row_le h p
  intro a; fin_cases a
  · exact this
  · exact Nat.le_refl 4
  · exact Nat.le_refl 128
theorem rP_inb : ∀ (p : Fin 16), ∀ a, (![0, 32 * p.val, 0] : Fin 3 → Nat) a + S4x32x1024.size a ≤ S4x512x1024.size a := by decide

/-- Piece `p` of half `h` of a block of inputs or results, of the second operand, of the fourth. -/
abbrev rX (h : Nat) (p : Fin 16) : Rect S4x1024x1024 := Rect.unit (s := S4x1024x1024) ![0, row h p, 0] S4x32x1024.size (rX_inb h p)
abbrev rB (h : Nat) (p : Fin 16) : Rect S4x1024x32 := Rect.unit (s := S4x1024x32) ![0, row h p, 0] S4x32x32.size (rB_inb h p)
abbrev rL (h : Nat) (p : Fin 16) : Rect S1024x4x128 := Rect.unit (s := S1024x4x128) ![row h p, 0, 0] S32x4x128.size (rL_inb h p)
/-- Piece `p` of an exchange buffer. -/
abbrev rP (p : Fin 16) : Rect S4x512x1024 := Rect.unit (s := S4x512x1024) ![0, 32 * p.val, 0] S4x32x1024.size (rP_inb p)
/-- The sixteen rows before row `512`, and the block's last sixteen. -/
abbrev rXw : Rect S4x1024x1024 := Rect.unit (s := S4x1024x1024) ![0, 496, 0] S4x16x1024.size inb_S4x1024x1024_S4x16x1024_0_496_0
abbrev rBw : Rect S4x1024x32 := Rect.unit (s := S4x1024x32) ![0, 496, 0] S4x16x32.size inb_S4x1024x32_S4x16x32_0_496_0
abbrev rXe : Rect S4x1024x1024 := Rect.unit (s := S4x1024x1024) ![0, 1008, 0] S4x16x1024.size inb_S4x1024x1024_S4x16x1024_0_1008_0
abbrev rBe : Rect S4x1024x32 := Rect.unit (s := S4x1024x32) ![0, 1008, 0] S4x16x32.size inb_S4x1024x32_S4x16x32_0_1008_0
/-- A whole buffer. -/
abbrev rH : Rect S4x32x1024 := Rect.unit (s := S4x32x1024) ![0, 0, 0] S4x32x1024.size inb_S4x32x1024_S4x32x1024_0_0_0
abbrev rA : Rect S32x1024 := Rect.unit (s := S32x1024) ![0, 0] S32x1024.size inb_S32x1024_S32x1024_0_0
abbrev rHX : Rect S4x16x1024 := Rect.unit (s := S4x16x1024) ![0, 0, 0] S4x16x1024.size inb_S4x16x1024_S4x16x1024_0_0_0
abbrev rHB : Rect S4x16x32 := Rect.unit (s := S4x16x32) ![0, 0, 0] S4x16x32.size inb_S4x16x32_S4x16x32_0_0_0

theorem rP_packed : ∀ (p : Fin 16), (rP p).PackedRows (EltTy.packing .bf16) := by decide
theorem rP_words (p : Fin 16) : (rP p).WholeWords (EltTy.packing .bf16) := (rP_packed p).wholeWords

/-- The block's last sixteen rows, and piece `p` of the exchange buffers, as the transfers name them. -/
abbrev sXe : Memref sig .tc .vmem S4x16x1024 .f32 := mX.slice rXe (fun _ => rfl)
abbrev sBe : Memref sig .tc .vmem S4x16x32 .f32 := mB.slice rBe (fun _ => rfl)
abbrev sSO (p : Fin 16) : Memref sig .tc .vmem S4x32x1024 .bf16 := mSO.slice (rP p) (fun _ => rfl)
abbrev sSI (p : Fin 16) : Memref sig .tc .vmem S4x32x1024 .bf16 := mSI.slice (rP p) (fun _ => rfl)

theorem sSO_words (p : Fin 16) : (sSO p).view.WordExact := (Memref.isWhole_whole cc0_scratch3).wordExact_slice rfl _ (rP_words p)
theorem sSI_words (p : Fin 16) : (sSI p).view.WordExact := (Memref.isWhole_whole cc0_scratch4).wordExact_slice rfl _ (rP_words p)

/-! ## The arithmetic -/

theorem slX : ∀ k : Fin 32, S4x32x1024.Slices ![0, k.val, 0] S4x1x1024 := by decide
theorem slB : ∀ k : Fin 32, S4x32x32.Slices ![0, 0, k.val] S4x32x1 := by decide
theorem slL : ∀ k : Fin 32, S32x4x128.Slices ![k.val, 0, 0] S1x4x128 := by decide
theorem slWX : ∀ k : Fin 16, S4x16x1024.Slices ![0, k.val, 0] S4x1x1024 := by decide
theorem slWB : ∀ k : Fin 16, S4x32x16.Slices ![0, 0, k.val] S4x32x1 := by decide

/-- The decay as the body uses it. -/
def decay (a : Vec F S32x1024 .bf16) : FVec F S1x32x1024 .bf16 :=
  shapeCast S1x32x1024 (shapeCast S32x1024 (show FVec F S32x1024 .bf16 from a) shapeCasts_S32x1024_S32x1024) shapeCasts_S32x1024_S1x32x1024

/-- One step of the state: decayed, plus the outer product of the row's two inputs. -/
def hstep (a : FVec F S1x32x1024 .bf16) (xt : FVec F S4x1x1024 .bf16) (bt : FVec F S4x32x1 .bf16)
    (h : FVec F S4x32x1024 .bf16) : FVec F S4x32x1024 .bf16 :=
  addf (mulf h (broadcastTo S4x32x1024 a broadcasts_S1x32x1024_S4x32x1024))
    (mulf (broadcastTo S4x32x1024 xt broadcasts_S4x1x1024_S4x32x1024) (broadcastTo S4x32x1024 bt broadcasts_S4x32x1_S4x32x1024))

/-- The inputs of a piece as the steps read them. -/
def xin (v : Vec F S4x32x1024 .f32) : FVec F S4x32x1024 .bf16 :=
  truncf .bf16 (shapeCast S4x32x1024 (show FVec F S4x32x1024 .f32 from v) shapeCasts_S4x32x1024_S4x32x1024) bitsLt_bf16_f32
def bin (v : Vec F S4x32x32 .f32) : FVec F S4x32x32 .bf16 :=
  truncf .bf16 (transpose S4x32x32 [0, 2, 1] (shapeCast S4x32x32 (show FVec F S4x32x32 .f32 from v) shapeCasts_S4x32x32_S4x32x32)
    transposes_S4x32x32_p0_2_1_S4x32x32) bitsLt_bf16_f32
def lin (v : Vec F S32x4x128 .bf16) : FVec F S32x4x128 .bf16 :=
  shapeCast S32x4x128 (show FVec F S32x4x128 .bf16 from v) shapeCasts_S32x4x128_S32x4x128

/-- The state after `n` of a piece's steps. -/
def hs (a : FVec F S1x32x1024 .bf16) (x : FVec F S4x32x1024 .bf16) (b : FVec F S4x32x32 .bf16)
    (h : FVec F S4x32x1024 .bf16) : Nat → FVec F S4x32x1024 .bf16
  | 0 => h
  | n + 1 => hstep a (extractStridedSlice S4x1x1024 ![0, (Fin.ofNat 32 n).val, 0] x (slX (Fin.ofNat 32 n)))
      (extractStridedSlice S4x32x1 ![0, 0, (Fin.ofNat 32 n).val] b (slB (Fin.ofNat 32 n))) (hs a x b h n)

/-- The result's row `k` of a piece, from the state after step `k`. -/
def yrow (l : FVec F S32x4x128 .bf16) (k : Fin 32) (h : FVec F S4x32x1024 .bf16) : FVec F S4x1x1024 .f32 :=
  shapeCast S4x1x1024 (matmul dot_S4x128_S128x1024_S4x1024_1_0_0_1_n_n none
    (shapeCast S4x128 (extractStridedSlice S1x4x128 ![k.val, 0, 0] l (slL k)) shapeCasts_S1x4x128_S4x128)
    (shapeCast S128x1024 h shapeCasts_S4x32x1024_S128x1024) (constant S4x1024 .f32 0x00000000#32)) shapeCasts_S4x1024_S4x1x1024

/-- Thirty-two rows set one after another. -/
def rows (y : Fin 32 → FVec F S4x1x1024 .f32) : FVec F S4x32x1024 .f32 :=
  concatenate S4x32x1024 1 [⟨S4x1x1024, y 0⟩, ⟨S4x1x1024, y 1⟩, ⟨S4x1x1024, y 2⟩, ⟨S4x1x1024, y 3⟩, ⟨S4x1x1024, y 4⟩, ⟨S4x1x1024, y 5⟩, ⟨S4x1x1024, y 6⟩, ⟨S4x1x1024, y 7⟩, ⟨S4x1x1024, y 8⟩, ⟨S4x1x1024, y 9⟩, ⟨S4x1x1024, y 10⟩, ⟨S4x1x1024, y 11⟩, ⟨S4x1x1024, y 12⟩, ⟨S4x1x1024, y 13⟩, ⟨S4x1x1024, y 14⟩, ⟨S4x1x1024, y 15⟩, ⟨S4x1x1024, y 16⟩, ⟨S4x1x1024, y 17⟩, ⟨S4x1x1024, y 18⟩, ⟨S4x1x1024, y 19⟩, ⟨S4x1x1024, y 20⟩, ⟨S4x1x1024, y 21⟩, ⟨S4x1x1024, y 22⟩, ⟨S4x1x1024, y 23⟩, ⟨S4x1x1024, y 24⟩, ⟨S4x1x1024, y 25⟩, ⟨S4x1x1024, y 26⟩, ⟨S4x1x1024, y 27⟩, ⟨S4x1x1024, y 28⟩, ⟨S4x1x1024, y 29⟩, ⟨S4x1x1024, y 30⟩, ⟨S4x1x1024, y 31⟩]
    concatenates_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x32x1024_d1

/-- A piece's result. -/
def yblk (a : FVec F S1x32x1024 .bf16) (x : FVec F S4x32x1024 .bf16) (b : FVec F S4x32x32 .bf16)
    (l : FVec F S32x4x128 .bf16) (h : FVec F S4x32x1024 .bf16) : FVec F S4x32x1024 .f32 :=
  rows fun k => yrow l k (hs a x b h (k.val + 1))

/-- What is stored of a state, and what is sent of a result. -/
def hst (h : FVec F S4x32x1024 .bf16) : FVec F S4x32x1024 .bf16 := shapeCast S4x32x1024 h shapeCasts_S4x32x1024_S4x32x1024
def ysent (y : FVec F S4x32x1024 .f32) : FVec F S4x32x1024 .bf16 :=
  shapeCast S4x32x1024 (truncf .bf16 y bitsLt_bf16_f32) shapeCasts_S4x32x1024_S4x32x1024
/-- What is stored of a result received. -/
def yrecv (y : Vec F S4x32x1024 .bf16) : FVec F S4x32x1024 .f32 := extf .f32 (show FVec F S4x32x1024 .bf16 from y) bitsLt_bf16_f32

/-- The state at the start: nothing. -/
def hzero : FVec F S4x32x1024 .bf16 :=
  shapeCast S4x32x1024 (broadcast S4x32x1024 (Scalar.ofBits (F := F) .bf16 0x0000#16)) shapeCasts_S4x32x1024_S4x32x1024

/-- The warm-up rows as the warm-up's steps read them. -/
def wxin (v : Vec F S4x16x1024 .f32) : FVec F S4x16x1024 .bf16 := truncf .bf16 (show FVec F S4x16x1024 .f32 from v) bitsLt_bf16_f32
def wbin (v : Vec F S4x16x32 .f32) : FVec F S4x32x16 .bf16 :=
  truncf .bf16 (transpose S4x32x16 [0, 2, 1] (show FVec F S4x16x32 .f32 from v) transposes_S4x16x32_p0_2_1_S4x32x16) bitsLt_bf16_f32
/-- One step of the warm-up. -/
def wstep (a : FVec F S1x32x1024 .bf16) (x : FVec F S4x16x1024 .bf16) (b : FVec F S4x32x16 .bf16) (k : Fin 16)
    (h : FVec F S4x32x1024 .bf16) : FVec F S4x32x1024 .bf16 :=
  hstep a (extractStridedSlice S4x1x1024 ![0, k.val, 0] x (slWX k)) (extractStridedSlice S4x32x1 ![0, 0, k.val] b (slWB k)) h
/-- The warm-up rows as they are copied within a device. -/
def wxcopy (v : Vec F S4x16x1024 .f32) : FVec F S4x16x1024 .f32 :=
  shapeCast S4x16x1024 (shapeCast S4x16x1024 (show FVec F S4x16x1024 .f32 from v) shapeCasts_S4x16x1024_S4x16x1024) shapeCasts_S4x16x1024_S4x16x1024
def wbcopy (v : Vec F S4x16x32 .f32) : FVec F S4x16x32 .f32 :=
  shapeCast S4x16x32 (shapeCast S4x16x32 (show FVec F S4x16x32 .f32 from v) shapeCasts_S4x16x32_S4x16x32) shapeCasts_S4x16x32_S4x16x32

/-! ## The program -/

/-- A program of the body. -/
abbrev PK (F : FTy → Type) [FloatOps F] : Type 1 := Prog (TpuEff nD τ sig (Elt F) Λ₀ .tc) PUnit

/-- Load and store the state. -/
def ldH (k : Vec F S4x32x1024 .bf16 → PK F) : PK F := .op (.load mH rH.toLoadRect (View.loadsAt_vmem h_S4x32x1024)) k
def stH (v : FVec F S4x32x1024 .bf16) (r : PK F) : PK F :=
  .op (.store mH rH v Finset.univ (View.stores_vmem h_S4x32x1024 ((Memref.isWhole_whole cc0_scratch2).storeExact_slice rfl _
    packedbf16_S4x32x1024_S4x32x1024_0_0_0) (fun _ => rfl)) (.inl rfl)) fun _ => r

/-- Do `f 0`, `f 1`, …: the `n` trips from trip `k` on, then the rest. -/
def seqK (f : Fin 16 → PK F → PK F) : Nat → Nat → PK F → PK F
  | 0, _, r => r
  | n + 1, k, r => f (Fin.ofNat 16 k) (seqK f n (k + 1) r)

/-- The entry barrier: a signal to each neighbour, and a wait for both. -/
def entry (c : Dev nD) (r : PK F) : PK F :=
  .op (.semSignal (xn c : Thread nD τ) barS ((1 : ℕ) : ℤ)) fun _ => .op (.semSignal (yn c : Thread nD τ) barS ((1 : ℕ) : ℤ)) fun _ =>
    .op (.semWait barS ((2 : ℕ) : ℤ)) fun _ => r

/-- The first row of devices sends its last sixteen rows on. -/
def sendHalo (c : Dev nD) (r : PK F) : PK F :=
  .op (.enqueueDma sXe (.remote (Dev.tc (xn c)) mHX (.dma (hsS 0))) (.dma (hrS 0)) (View.wordExact_bits rfl)
    (Memref.isWhole_whole cc0_scratch0).wordExact ⟨⟨rfl, Or.inl rfl⟩, trivial⟩) fun _ =>
  .op (.enqueueDma sBe (.remote (Dev.tc (xn c)) mHB (.dma (hsS 1))) (.dma (hrS 1)) (View.wordExact_bits rfl)
    (Memref.isWhole_whole cc0_scratch1).wordExact ⟨⟨rfl, Or.inl rfl⟩, trivial⟩) fun _ => r

/-- The state set to nothing, and the decay read. -/
def start (k : FVec F S1x32x1024 .bf16 → PK F) : PK F :=
  ldH fun _ => stH hzero <| .op (.load mA rA.toLoadRect (View.loadsAt_vmem h_S32x1024)) fun a => k (decay a)

/-- The second row of devices waits for the rows it is sent, and says so. -/
def recvHalo (c : Dev nD) (r : PK F) : PK F :=
  .op (.waitDma2 (hrS 0) sXe mHX (View.wordExact_bits rfl) (Memref.isWhole_whole cc0_scratch0).wordExact) fun _ =>
  .op (.waitDma2 (hrS 1) sBe mHB (View.wordExact_bits rfl) (Memref.isWhole_whole cc0_scratch1).wordExact) fun _ =>
  .op (.semSignal (xn c : Thread nD τ) ackS ((1 : ℕ) : ℤ)) fun _ => r

/-- A device of the second column takes the rows before its half of its own block. -/
def ownHalo (r : PK F) : PK F :=
  .op (.load mX rXw.toLoadRect (View.loadsAt_vmem h_S4x16x1024)) fun x =>
  .op (.load mHX rHX.toLoadRect (View.loadsAt_vmem h_S4x16x1024)) fun _ =>
  .op (.store mHX rHX (wxcopy x) Finset.univ (View.stores_vmem_bits_univ h_S4x16x1024 rfl) (.inl rfl)) fun _ =>
  .op (.load mB rBw.toLoadRect (View.loadsAt_vmem h_S4x16x32)) fun b =>
  .op (.load mHB rHB.toLoadRect (View.loadsAt_vmem h_S4x16x32)) fun _ =>
  .op (.store mHB rHB (wbcopy b) Finset.univ (View.stores_vmem_bits_univ h_S4x16x32 rfl) (.inl rfl)) fun _ => r

/-- Step `k` of the warm-up, on the state's buffer. -/
def warmAt (a : FVec F S1x32x1024 .bf16) (x : FVec F S4x16x1024 .bf16) (b : FVec F S4x32x16 .bf16) (k : Fin 16) (r : PK F) : PK F :=
  ldH fun h => ldH fun _ => stH (hst (wstep a x b k h)) r

/-- The warm-up. -/
def warm (a : FVec F S1x32x1024 .bf16) (r : PK F) : PK F :=
  .op (.load mHX rHX.toLoadRect (View.loadsAt_vmem h_S4x16x1024)) fun x =>
  .op (.load mHB rHB.toLoadRect (View.loadsAt_vmem h_S4x16x32)) fun b =>
  seqK (warmAt a (wxin x) (wbin b)) 16 0 r

/-- Piece `p` of the scan: its inputs read, its thirty-two steps done, its result stored, and sent to the neighbour. -/
def piece (c : Dev nD) (a : FVec F S1x32x1024 .bf16) (p : Fin 16) (r : PK F) : PK F :=
  .op (.load mX (rX c.val p).toLoadRect (View.loadsAt_vmem h_S4x32x1024)) fun x =>
  .op (.load mB (rB c.val p).toLoadRect (View.loadsAt_vmem h_S4x32x32)) fun b =>
  .op (.load mL (rL c.val p).toLoadRect (View.loadsAt_vmem h_S32x4x128)) fun l =>
  ldH fun h => ldH fun _ => stH (hst (hs a (xin x) (bin b) h 32)) <|
  .op (.load mY (rX c.val p).toLoadRect (View.loadsAt_vmem h_S4x32x1024)) fun _ =>
  .op (.store mY (rX c.val p) (yblk a (xin x) (bin b) (lin l) h) Finset.univ (View.stores_vmem_bits_univ h_S4x32x1024 rfl) (.inl rfl)) fun _ =>
  .op (.load mSO (rP p).toLoadRect (View.loadsAt_vmem h_S4x32x1024)) fun _ =>
  .op (.store mSO (rP p) (ysent (yblk a (xin x) (bin b) (lin l) h)) Finset.univ
    (View.stores_vmem h_S4x32x1024 ((Memref.isWhole_whole cc0_scratch3).storeExact_slice rfl _ (rP_packed p)) (fun _ => rfl)) (.inl rfl)) fun _ =>
  .op (.enqueueDma (sSO p) (.remote (Dev.tc (yn c)) (sSI p) (.dma (psS p))) (.dma (prS p)) (sSO_words p) (sSI_words p)
    ⟨⟨rfl, Or.inl rfl⟩, trivial⟩) fun _ => r

/-- The neighbour's piece `p` waited for and stored. -/
def take (c : Dev nD) (p : Fin 16) (r : PK F) : PK F :=
  .op (.waitDma2 (prS p) (sSO p) (sSI p) (sSO_words p) (sSI_words p)) fun _ =>
  .op (.load mSI (rP p).toLoadRect (View.loadsAt_vmem h_S4x32x1024)) fun y =>
  .op (.load mY (rX (c.val + 1) p).toLoadRect (View.loadsAt_vmem h_S4x32x1024)) fun _ =>
  .op (.store mY (rX (c.val + 1) p) (yrecv y) Finset.univ (View.stores_vmem_bits_univ h_S4x32x1024 rfl) (.inl rfl)) fun _ => r

/-- The own piece `p` waited for as sent. -/
def sent (p : Fin 16) (r : PK F) : PK F :=
  .op (.waitDma2 (psS p) (sSI p) (sSO p) (sSI_words p) (sSO_words p)) fun _ => r

/-- The first row of devices waits for its rows as sent, and for the word that they were taken. -/
def sentHalo (r : PK F) : PK F :=
  .op (.waitDma2 (hsS 0) mHX sXe (Memref.isWhole_whole cc0_scratch0).wordExact (View.wordExact_bits rfl)) fun _ =>
  .op (.waitDma2 (hsS 1) mHB sBe (Memref.isWhole_whole cc0_scratch1).wordExact (View.wordExact_bits rfl)) fun _ =>
  .op (.semWait ackS ((1 : ℕ) : ℤ)) fun _ => r

/-- The exit handshake. -/
def exit (c : Dev nD) (r : PK F) : PK F :=
  .op (.semSignal (yn c : Thread nD τ) exitS ((1 : ℕ) : ℤ)) fun _ => .op (.semWait exitS ((1 : ℕ) : ℤ)) fun _ => r

/-- `f` where the condition holds, then the rest. -/
def onlyIf (q : Bool) (f : PK F → PK F) (r : PK F) : PK F := cond q (f r) r

/-- Whether a device is of the mesh's first row; whether it is of its second column. -/
def fst (c : Dev nD) : Bool := Nat.beq (c.val / 2) 0
def snd (c : Dev nD) : Bool := Nat.beq (c.val % 2) 1

/-- The body on device `c`. -/
def body (c : Dev nD) : PK F :=
  entry c <| onlyIf (fst c) (sendHalo c) <| start fun a =>
  onlyIf (not (fst c)) (recvHalo c) <| onlyIf (snd c) ownHalo <| onlyIf (or (not (fst c)) (snd c)) (warm a) <|
  seqK (piece c a) 16 0 <| seqK (take c) 16 0 <| seqK sent 16 0 <| onlyIf (fst c) sentHalo <| exit c <| .ret ⟨⟩

/-! ## It is the printed body -/

/-- The printed body, on the operands the pipeline calls it with. -/
abbrev printed : PK F :=
  cc0__body mX (Memref.isWhole_whole _) mA (Memref.isWhole_whole _) mB (Memref.isWhole_whole _) mL (Memref.isWhole_whole _)
    mY (Memref.isWhole_whole _) mHX (Memref.isWhole_whole _) mHB (Memref.isWhole_whole _) mH (Memref.isWhole_whole _)
    mSO (Memref.isWhole_whole _) mSI (Memref.isWhole_whole _) cc0_scratch5 cc0_scratch6 cc0_scratch7 cc0_scratch8 cc0_scratch9 cc0_scratch10

/-- What follows the reading of the device's number. -/
def after : PK F → Dev nD → PK F
  | .op .deviceId k => k
  | p => fun _ => p

theorem printed_dev : printed (F := F) = .op .deviceId (after printed) := by sl_kernel_rfl

theorem body_0 : after (F := F) printed ⟨0, by decide⟩ = body ⟨0, by decide⟩ := by sl_kernel_rfl
theorem body_1 : after (F := F) printed ⟨1, by decide⟩ = body ⟨1, by decide⟩ := by sl_kernel_rfl
theorem body_2 : after (F := F) printed ⟨2, by decide⟩ = body ⟨2, by decide⟩ := by sl_kernel_rfl
theorem body_3 : after (F := F) printed ⟨3, by decide⟩ = body ⟨3, by decide⟩ := by sl_kernel_rfl

/-- The printed body reads its device's number, and then is `body` at it. -/
theorem body_eq : printed (F := F) = .op .deviceId body := by
  rw [printed_dev]
  refine congrArg _ (funext fun c => ?_)
  fin_cases c
  · exact body_0
  · exact body_1
  · exact body_2
  · exact body_3

end Cert.KernelIdeal.Scan
-- ==== Proof.Ideal.Protocol.lean ====
/-
The protocol by which the four devices exchange rows and pieces, cell by cell.

Every semaphore of a device is a cell, used for one round. Who pays it, and what the payment hands over:

* the entry barrier: one unit from each neighbour. The neighbour along the second axis hands over the buffer its pieces
  are to be received in. The neighbour along the first axis, where it is of the second row, hands over the two buffers
  its warm-up rows are to be received in. Each also says that the cells that will be credited are ready.
* the warm-up rows' receive cells (second row only): the rows sent, in the device's own buffers.
* the warm-up rows' send cells (first row only): the rows lent, at half share, since the scan reads them meanwhile.
* the acknowledgement (first row only) and the exit handshake: nothing.
* a piece's receive cell: the piece of the neighbour's result. A piece's send cell: the part of the buffer it was sent from.
-/
module

public import proofs.«01_k».proof.Proof.Ideal.Body
public import proofs.«01_k».proof.Proof.Gen.KernelIdeal.Launch
public import Idealize.ShloMosaic.Lib.Pipeline.Launch
public import Idealize.ShloMosaic.Lib.Pipeline.Kit
public import Idealize.ShloMosaic.Lib.Pipeline.RegionTalk
public import Idealize.ShloMosaic.Lib.Rounds

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

theorem xn_xn (c : Dev nD) : xn (xn c) = c := by revert c; decide
theorem yn_yn (c : Dev nD) : yn (yn c) = c := by revert c; decide
theorem fst_xn (c : Dev nD) : fst (xn c) = !fst c := by revert c; decide
theorem fst_yn (c : Dev nD) : fst (yn c) = fst c := by revert c; decide
def xnE : Dev nD ≃ Dev nD := ⟨xn, xn, xn_xn, xn_xn⟩
def ynE : Dev nD ≃ Dev nD := ⟨yn, yn, yn_yn, yn_yn⟩

/-! ## The values: what the scan makes of the operands -/

/-- What the devices' staged operands hold. -/
structure Ins (F : FTy → Type) [FloatOps F] where
  x : Dev nD → (cc0_stg0_0 : Ref sig .tc).ty.Contents (Elt F)
  a : Dev nD → (cc0_stg1_0 : Ref sig .tc).ty.Contents (Elt F)
  b : Dev nD → (cc0_stg2_0 : Ref sig .tc).ty.Contents (Elt F)
  l : Dev nD → (cc0_stg3_0 : Ref sig .tc).ty.Contents (Elt F)

variable (I : Ins F)

/-- The rows sent on, as the receiver holds them. -/
def haloX (c : Dev nD) : (cc0_scratch0 : Ref sig .tc).ty.Contents (Elt F) := sXe.view.read (Elt F) (I.x c)
def haloB (c : Dev nD) : (cc0_scratch1 : Ref sig .tc).ty.Contents (Elt F) := sBe.view.read (Elt F) (I.b c)

/-- The rows a device warms up on: its own rows before its half, or the rows it was sent. -/
def warmX (c : Dev nD) : (cc0_scratch0 : Ref sig .tc).ty.Contents (Elt F) :=
  bif snd c then wxcopy (mX.view.readAt (Elt F) rXw.toLoadRect (I.x c)) else haloX I (xn c)
def warmB (c : Dev nD) : (cc0_scratch1 : Ref sig .tc).ty.Contents (Elt F) :=
  bif snd c then wbcopy (mB.view.readAt (Elt F) rBw.toLoadRect (I.b c)) else haloB I (xn c)

/-- The decay on device `c`. -/
def dec (c : Dev nD) : FVec F S1x32x1024 .bf16 := decay (mA.view.readAt (Elt F) rA.toLoadRect (I.a c))

/-- The state's buffer after `k` steps of the warm-up. -/
def warmed (c : Dev nD) : Nat → FVec F S4x32x1024 .bf16
  | 0 => hzero
  | k + 1 => hst (wstep (dec I c) (wxin (warmX I c)) (wbin (warmB I c)) (Fin.ofNat 16 k) (warmed c k))

/-- The state's buffer where the scan starts. -/
def state0 (c : Dev nD) : FVec F S4x32x1024 .bf16 := bif (!fst c) || snd c then warmed I c 16 else hzero

/-- A piece's inputs. -/
def px (c : Dev nD) (p : Fin 16) : FVec F S4x32x1024 .bf16 := xin (mX.view.readAt (Elt F) (rX c.val p).toLoadRect (I.x c))
def pb (c : Dev nD) (p : Fin 16) : FVec F S4x32x32 .bf16 := bin (mB.view.readAt (Elt F) (rB c.val p).toLoadRect (I.b c))
def pl (c : Dev nD) (p : Fin 16) : FVec F S32x4x128 .bf16 := lin (mL.view.readAt (Elt F) (rL c.val p).toLoadRect (I.l c))

/-- The state's buffer before piece `p`. -/
def state (c : Dev nD) : Nat → FVec F S4x32x1024 .bf16
  | 0 => state0 I c
  | p + 1 => hst (hs (dec I c) (px I c (Fin.ofNat 16 p)) (pb I c (Fin.ofNat 16 p)) (state c p) 32)

/-- Piece `p` of device `c`'s half of the result, and as it is sent. -/
def own (c : Dev nD) (p : Fin 16) : FVec F S4x32x1024 .f32 :=
  yblk (dec I c) (px I c p) (pb I c p) (pl I c p) (state I c p.val)
def wire (c : Dev nD) (p : Fin 16) : FVec F S4x32x1024 .bf16 := ysent (own I c p)

/-! ## The cells -/

abbrev cell (c : Dev nD) (s : SemLoc sig) : GSem nD τ sig := ((c : Thread nD τ), s)

/-- What a semaphore is for. -/
inductive Role where
  | bar | exit | ack | hs (i : Fin 2) | hr (i : Fin 2) | ps (p : Fin 16) | pr (p : Fin 16) | stage
  deriving DecidableEq

def role : SemLoc sig → Role
  | .reg s => if s.val = 2 then .bar else if s.val = 1 then .exit else .ack
  | .dma s => if s.val < 5 then .stage else if s.val < 7 then .hs (Fin.ofNat 2 (s.val - 5)) else if s.val < 9 then .hr (Fin.ofNat 2 (s.val - 7))
    else if s.val < 25 then .ps (Fin.ofNat 16 (s.val - 9)) else .pr (Fin.ofNat 16 (s.val - 25))

theorem role_bar : role (.reg barS) = .bar := rfl
theorem role_exit : role (.reg exitS) = .exit := rfl
theorem role_ack : role (.reg ackS) = .ack := rfl
theorem role_hs : ∀ i : Fin 2, role (.dma (hsS i)) = .hs i := by decide
theorem role_hr : ∀ i : Fin 2, role (.dma (hrS i)) = .hr i := by decide
theorem role_ps : ∀ p : Fin 16, role (.dma (psS p)) = .ps p := by decide
theorem role_pr : ∀ p : Fin 16, role (.dma (prS p)) = .pr p := by decide

/-- The kernel's own semaphores: the warm-up rows' two pairs, the pieces' sixteen pairs, acknowledgement and exit. -/
abbrev Own : Type := (Fin 2 ⊕ Fin 2) ⊕ ((Fin 16 ⊕ Fin 16) ⊕ (Unit ⊕ Unit))
def osem : Own → SemLoc sig
  | .inl (.inl i) => .dma (hsS i)
  | .inl (.inr i) => .dma (hrS i)
  | .inr (.inl (.inl p)) => .dma (psS p)
  | .inr (.inl (.inr p)) => .dma (prS p)
  | .inr (.inr (.inl _)) => .reg ackS
  | .inr (.inr (.inr _)) => .reg exitS

/-! ## What the transfers count -/

def NX : ℕ := mHX.view.dmaCredit
def NB : ℕ := mHB.view.dmaCredit
def NP : ℕ := (sSI 0).view.dmaCredit

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A whole buffer of device `c`, at share `q`. -/
abbrev bufAt (c : Dev nD) (b : Ref sig .tc) (q : PosShare TreeShare) (f : b.ty.Contents (Elt F)) : sProp 𝕄 :=
  (Memref.whole b).view.loc (c : Thread nD τ) ↦{q} f
/-- A whole buffer at contents not named. -/
abbrev bufAny (c : Dev nD) (b : Ref sig .tc) : sProp 𝕄 := iprop(∃ f : b.ty.Contents (Elt F), bufAt c b fullShare f)

/-- The part of a staged operand that is lent while its rows are sent, and the two exchange buffers' pieces. -/
abbrev lentX (c : Dev nD) : sProp 𝕄 := sXe.view.loc (c : Thread nD τ) ↦[sXe.view.set]{fullShare.left} I.x c
abbrev lentB (c : Dev nD) : sProp 𝕄 := sBe.view.loc (c : Thread nD τ) ↦[sBe.view.set]{fullShare.left} I.b c
abbrev outPc (c : Dev nD) (p : Fin 16) (f : (cc0_scratch3 : Ref sig .tc).ty.Contents (Elt F)) : sProp 𝕄 :=
  (sSO p).view.loc (c : Thread nD τ) ↦[(sSO p).view.set]{fullShare} f
abbrev inPc (c : Dev nD) (p : Fin 16) (f : (cc0_scratch4 : Ref sig .tc).ty.Contents (Elt F)) : sProp 𝕄 :=
  (sSI p).view.loc (c : Thread nD τ) ↦[(sSI p).view.set]{fullShare} f
abbrev outAny (c : Dev nD) (p : Fin 16) : sProp 𝕄 := iprop(∃ f : (cc0_scratch3 : Ref sig .tc).ty.Contents (Elt F), outPc c p f)
abbrev inAny (c : Dev nD) (p : Fin 16) : sProp 𝕄 := iprop(∃ f : (cc0_scratch4 : Ref sig .tc).ty.Contents (Elt F), inPc c p f)
/-- A piece received. -/
abbrev inGot (c : Dev nD) (p : Fin 16) : sProp 𝕄 :=
  iprop(∃ f : (cc0_scratch4 : Ref sig .tc).ty.Contents (Elt F), ⌜(sSI p).view.read (Elt F) f = wire I (yn c) p⌝ ∗ inPc c p f)

/-! ## The schedule -/

/-- What a device hands its neighbour along the first axis at the entry barrier: where it is of the second row, its two
    buffers for the warm-up rows; where it is of the first, that its acknowledgement cell is ready. -/
def giveX (c : Dev nD) : sProp 𝕄 :=
  bif fst c then iprop(reached ER (cell c (.reg ackS)) 0)
  else iprop((bufAny c cc0_scratch0 ∗ bufAny c cc0_scratch1) ∗ reached ER (cell c (.dma (hrS 0))) 0 ∗ reached ER (cell c (.dma (hrS 1))) 0)
/-- What it hands its neighbour along the second axis: the buffer the pieces come into. -/
def giveY (c : Dev nD) : sProp 𝕄 :=
  iprop((bigSep Finset.univ fun p : Fin 16 => iprop(inAny c p ∗ reached ER (cell c (.dma (prS p))) 0)) ∗ reached ER (cell c (.reg exitS)) 0)

def duty (c : Dev nD) : Role → Finset Bool
  | .bar => Finset.univ
  | .exit => {false}
  | .ack => bif fst c then {false} else ∅
  | .hs _ => bif fst c then {false} else ∅
  | .hr _ => bif fst c then ∅ else {false}
  | .ps _ => {false}
  | .pr _ => {false}
  | .stage => ∅
def units : Role → ℕ
  | .hs i => if i = 0 then NX else NB
  | .hr i => if i = 0 then NX else NB
  | .ps _ => NP
  | .pr _ => NP
  | _ => 1
def hands (c : Dev nD) (d : Bool) : Role → sProp 𝕄
  | .bar => bif d then giveY (yn c) else giveX (xn c)
  | .hs i => if i = 0 then lentX I c else lentB I c
  | .hr i => if i = 0 then bufAt c cc0_scratch0 fullShare (haloX I (xn c)) else bufAt c cc0_scratch1 fullShare (haloB I (xn c))
  | .ps p => outAny c p
  | .pr p => inGot I c p
  | _ => iprop(emp)

theorem NX_pos : 0 < NX := View.dmaCredit_pos _ (by decide)
theorem NB_pos : 0 < NB := View.dmaCredit_pos _ (by decide)
theorem NP_pos : 0 < NP := View.dmaCredit_pos _ (by decide)

/-- One round of every cell. -/
def rd : Rounds.Schedule (GSem nD τ sig) Bool 𝕄 where
  duties g r := if r = 0 ∧ g.1.2 = .tc then duty g.1.1 (role g.2) else ∅
  unitless _ := False
  amount g _ _ := units (role g.2)
  payload g _ d := hands I g.1.1 d (role g.2)
  amount_pos g _ _ _ := by
    show 0 < units (role g.2)
    cases role g.2 <;> simp only [units] <;> (try split) <;> first | exact NX_pos | exact NB_pos | exact NP_pos | exact Nat.one_pos

instance giveX_storable (c : Dev nD) : BI.Storable (upEmb : UEmb _ 𝕄) (giveX (F := F) c) := by
  unfold giveX; cases fst c <;> dsimp only [cond] <;> infer_instance
instance giveY_storable (c : Dev nD) : BI.Storable (upEmb : UEmb _ 𝕄) (giveY (F := F) c) := by
  unfold giveY; infer_instance
instance rd_storable (g : GSem nD τ sig) (r : ℕ) (d : Bool) : BI.Storable (upEmb : UEmb _ 𝕄) ((rd I).payload g r d) := by
  show BI.Storable upEmb (hands I g.1.1 d (role g.2))
  cases role g.2 <;> simp only [hands] <;> (try split) <;> (try cases d) <;> (try dsimp only [cond]) <;> infer_instance

section Tables

variable (c : Dev nD)

theorem duties_zero (s : SemLoc sig) : (rd I).duties (cell c s) 0 = duty c (role s) := by
  show (if (0 : ℕ) = 0 ∧ (c : Thread nD τ).2 = .tc then duty c (role s) else ∅) = _
  exact if_pos ⟨rfl, rfl⟩
theorem duties_later (g : GSem nD τ sig) (r : ℕ) (hr : 1 ≤ r) : (rd I).duties g r = ∅ := if_neg fun h => by omega
theorem amount_eq (s : SemLoc sig) (r : ℕ) (d : Bool) : (rd I).amount (cell c s) r d = units (role s) := rfl
theorem payload_eq (s : SemLoc sig) (r : ℕ) (d : Bool) : (rd I).payload (cell c s) r d = hands I c d (role s) := rfl

theorem expect_one (s : SemLoc sig) (h : duty c (role s) = {false}) : (rd I).expect (cell c s) 0 = units (role s) := by
  unfold Schedule.expect Schedule.amountOf; rw [duties_zero, h, Finset.sum_singleton, amount_eq]
theorem expect_bar : (rd I).expect (cell c (.reg barS)) 0 = 2 := by
  unfold Schedule.expect Schedule.amountOf
  rw [duties_zero, role_bar, duty, Finset.sum_congr rfl fun d _ => amount_eq I c (.reg barS) 0 d, Finset.sum_const]
  rfl

theorem rest_one (s : SemLoc sig) (h : duty c (role s) = {false}) :
    bigSep ((rd I).duties (cell c s) 0 \ ∅) (fun d => (rd I).payload (cell c s) 0 d) = hands I c false (role s) := by
  rw [Finset.sdiff_empty, duties_zero, h, bigSep_singleton, payload_eq]
theorem rest_bar : bigSep ((rd I).duties (cell c (.reg barS)) 0 \ ∅) (fun d => (rd I).payload (cell c (.reg barS)) 0 d)
    = iprop(giveX (xn c) ∗ giveY (yn c)) := by
  rw [Finset.sdiff_empty, duties_zero, role_bar, duty, show (Finset.univ : Finset Bool) = {false, true} from by decide,
    bigSep_insert (by decide), bigSep_singleton]
  rfl

end Tables

/-! ## What each device owes, in the order it pays, last first -/

/-- The exit's unit, and before it the last `n` pieces. -/
def owePieces (c : Dev nD) : ℕ → CellTallies nD τ sig Unit
  | 0 => tallyAt (cell (yn c) (.reg exitS)) () 1
  | n + 1 => owePieces c n + tallyAt (cell (yn c) (.dma (prS (Fin.ofNat 16 (15 - n))))) () NP
/-- Before the pieces: the acknowledgement, or the warm-up rows. -/
def oweMid (c : Dev nD) : CellTallies nD τ sig Unit :=
  bif fst c then (owePieces c 16 + tallyAt (cell (xn c) (.dma (hrS 1))) () NB) + tallyAt (cell (xn c) (.dma (hrS 0))) () NX
  else owePieces c 16 + tallyAt (cell (xn c) (.reg ackS)) () 1
/-- Before those: the two units of the entry barrier. -/
def O₀ (c : Dev nD) : CellTallies nD τ sig Unit :=
  (oweMid c + tallyAt (cell (yn c) (.reg barS)) () 1) + tallyAt (cell (xn c) (.reg barS)) () 1

def L (g : GSem nD τ sig) : Finset Unit := if g.1.2 = .tc then {()} else ∅
def lvl : Role → ℕ
  | .bar => 1
  | .hr _ => 2
  | .ack => 3
  | .pr _ => 3
  | .exit => 4
  | _ => 0
def lv (g : GSem nD τ sig) (_ : Unit) : ℕ := lvl (role g.2)

theorem L_of_ne (g : GSem nD τ sig) (h : g.1.2 ≠ .tc) : L g = ∅ := if_neg h
theorem L_tc (c : Dev nD) (sm : SemLoc sig) : L ((c : Thread nD τ), sm) = {()} := if_pos rfl

/-- Everything in `O` is owed to a core's cell of level above `n`. -/
def Above (n : ℕ) (O : CellTallies nD τ sig Unit) : Prop := ∀ g u, 0 < O g u → g.1.2 = .tc ∧ n < lvl (role g.2)

theorem Above.add {n : ℕ} {O P : CellTallies nD τ sig Unit} (hO : Above n O) (hP : Above n P) : Above n (O + P) := fun g u h => by
  rw [Pi.add_apply, Finsupp.add_apply] at h
  rcases Nat.add_pos_iff_pos_or_pos.mp h with h | h
  · exact hO g u h
  · exact hP g u h
theorem Above.tally {n : ℕ} (c : Dev nD) (s : SemLoc sig) (k : ℕ) (h : n < lvl (role s)) : Above n (tallyAt (cell c s) () k) := fun g u hg => by
  rw [tallyAt_apply] at hg
  split at hg
  · next h' => rw [h'.1]; exact ⟨rfl, h⟩
  · exact absurd hg (Nat.lt_irrefl 0)
theorem Above.mono {n n' : ℕ} {O : CellTallies nD τ sig Unit} (hn : n ≤ n') (h : Above n' O) : Above n O :=
  fun g u hg => ⟨(h g u hg).1, Nat.lt_of_le_of_lt hn (h g u hg).2⟩

theorem above_pieces (c : Dev nD) : ∀ n, Above 2 (owePieces c n)
  | 0 => Above.tally _ _ _ (by rw [role_exit]; decide)
  | n + 1 => (above_pieces c n).add (Above.tally _ _ _ (by rw [role_pr]; exact Nat.lt_succ_self 2))
theorem above_exit (c : Dev nD) : Above 3 (owePieces c 0) := Above.tally _ _ _ (by rw [role_exit]; decide)
theorem above_mid (c : Dev nD) : Above 1 (oweMid c) := by
  unfold oweMid
  cases fst c
  · exact ((above_pieces c 16).mono (by decide)).add (Above.tally _ _ _ (by rw [role_ack]; decide))
  · exact (((above_pieces c 16).mono (by decide)).add (Above.tally _ _ _ (by rw [role_hr]; exact Nat.lt_succ_self 1))).add
      (Above.tally _ _ _ (by rw [role_hr]; exact Nat.lt_succ_self 1))
theorem above_all (c : Dev nD) : Above 0 (O₀ c) :=
  (((above_mid c).mono (by decide)).add (Above.tally _ _ _ (by rw [role_bar]; decide))).add (Above.tally _ _ _ (by rw [role_bar]; decide))

theorem mayWait {n : ℕ} (c : Dev nD) (s : SemLoc sig) (h : lvl (role s) ≤ n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

/-! ## The records -/

theorem cellOf_ne {c d : Dev nD} {s t : SemLoc sig} (h : cell c s = cell d t) : c = d ∧ s = t :=
  ⟨congrArg (fun g => g.1.1) h, congrArg Prod.snd h⟩

theorem osem_inj : Function.Injective osem := by
  intro a b h
  have := congrArg role h
  rcases a with (a | a) | ((a | a) | (a | a)) <;> rcases b with (b | b) | ((b | b) | (b | b)) <;>
    simp only [osem, role_hs, role_hr, role_ps, role_pr, role_ack, role_exit, Role.hs.injEq, Role.hr.injEq, Role.ps.injEq, Role.pr.injEq,
      reduceCtorEq] at this <;> first | rw [this] | rfl
theorem osem_bar (k : Own) : osem k ≠ .reg barS := by
  intro h
  have := congrArg role h
  rcases k with (a | a) | ((a | a) | (a | a)) <;>
    simp only [osem, role_hs, role_hr, role_ps, role_pr, role_ack, role_exit, role_bar, reduceCtorEq] at this

/-- The barrier's cells, and the kernel's own. -/
def barEmb : Dev nD ↪ GSem nD τ sig := ⟨fun c => cell c (.reg barS), fun _ _ h => (cellOf_ne h).1⟩
def ownEmb : Dev nD × Own ↪ GSem nD τ sig :=
  ⟨fun ck => cell ck.1 (osem ck.2), fun a b h => Prod.ext (cellOf_ne h).1 (osem_inj (cellOf_ne h).2)⟩
def barCells : Finset (GSem nD τ sig) := Finset.univ.map barEmb
def ownCells : Finset (GSem nD τ sig) := Finset.univ.map ownEmb

/-- Every cell of a core, under the names the launch gives. -/
def invs (κ : GSem nD τ sig → ℕ) : sProp 𝕄 := bigSep (barCells ∪ ownCells) fun g => cellInv ER (rd I) (κ g) g

instance invs_persistent (κ : GSem nD τ sig → ℕ) : BI.Persistent (invs I κ) := by unfold invs; infer_instance

theorem inv_bar (κ : GSem nD τ sig → ℕ) (c : Dev nD) : invs I κ ⊢ cellInv ER (rd I) (κ (cell c (.reg barS))) (cell c (.reg barS)) :=
  bigSep_elim (i := cell c (.reg barS)) (Finset.mem_union_left _ (Finset.mem_map_of_mem barEmb (Finset.mem_univ c)))
theorem inv_own (κ : GSem nD τ sig → ℕ) (c : Dev nD) (k : Own) : invs I κ ⊢ cellInv ER (rd I) (κ (cell c (osem k))) (cell c (osem k)) :=
  bigSep_elim (i := cell c (osem k)) (Finset.mem_union_right _ (Finset.mem_map_of_mem ownEmb (Finset.mem_univ (c, k))))

/-- A used-up cell gives its counter back, at zero. -/
theorem close (κ : ℕ) (g : GSem nD τ sig) (R : ℕ) (h : ∀ r, R ≤ r → (rd I).duties g r = ∅) :
    iprop(cellInv ER (rd I) κ g ∗ atPos ER g R ∅ 0) ⊢ (|={Set.univ}=> semVal g 0 : sProp 𝕄) :=
  Rounds.cell_close ER (rd I) (Set.mem_univ κ) id h

end Cert.KernelIdeal.Scan
-- ==== Proof.Ideal.Steps.lean ====
/-
The body's parts as steps: what each takes and what it gives, for a device named by a variable.

Every statement has the form "what the part needs, and the rest of the program run from what the part leaves, give the
part followed by the rest". The loops go through one rule, `wp_seqK`: a state carried from trip to trip, and for each
trip its own resource taken and its own given.
-/
module

public import proofs.«01_k».proof.Proof.Ideal.Protocol

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F) (κ : GSem nD τ sig → ℕ) (c : Dev nD)

local notation "𝕄" => MT nD τ sig Unit (Elt F) ℕ UU ℕ

abbrev 𝒱₀ : Variants := Variants.none

/-- The program `p` run on device `c`. -/
abbrev WP (p : PK F) (Q : PUnit → sProp 𝕄) : sProp 𝕄 := wp frame (wpE (defs₀ (F := F)) 𝒱₀ (c : Thread nD τ) none) Set.univ p Q
/-- Device `c` owes `O`. -/
abbrev owing (O : CellTallies nD τ sig Unit) : sProp 𝕄 := iprop(∃ W, owes (c : Thread nD τ) O W)

/-- The records every step uses. -/
def ctx : sProp 𝕄 := iprop(invs I κ ∗ levAts L lv)
instance ctx_persistent : BI.Persistent (ctx I κ) := by unfold ctx; infer_instance

variable {c}

/-! ## Signals and waits -/

theorem wp_raise1 {d : Dev nD} {s : Sem sig} {b : Bool} (h1 : units (role (.reg s)) = 1) (hd : b ∈ duty d (role (.reg s)))
    (hI : invs I κ ⊢ cellInv ER (rd I) (κ (cell d (.reg s))) (cell d (.reg s))) {O : CellTallies nD τ sig Unit}
    {r : PK F} {Q : PUnit → sProp 𝕄} :
    iprop(ctx I κ ∗ owing c (O + tallyAt (cell d (.reg s)) () 1) ∗ dutyTok ER (cell d (.reg s)) 0 b ∗ hands I d b (role (.reg s))
        ∗ reached ER (cell d (.reg s)) 0 ∗ (owing c O -∗ WP c r Q))
      ⊢ WP c (.op (.semSignal (d : Thread nD τ) s ((1 : ℕ) : ℤ)) fun _ => r) Q := by
  unfold ctx
  iintro ⟨⟨#Hi, -⟩, ⟨%W, HO⟩, Ht, Hp, Hr, Hk⟩
  iapply (Rounds.wp_signal 𝒱₀ ER (rd I) (c : Thread nD τ) none (dst := (d : Thread nD τ)) (sem := s) (r := 0) (d := b)
      (κ := κ (cell d (.reg s))) (by rw [duties_zero]; exact hd) ((amount_eq I d (.reg s) 0 b).trans h1) () O rfl) $$ [HO Ht Hp Hr]
  · isplitr; · iapply hI; iexact Hi
    isplitl [HO]; · iexact HO
    isplitl [Ht]; · iexact Ht
    isplitl [Hp]; · rw [payload_eq]; iexact Hp
    iexact Hr
  iintro HO
  iapply Hk; iexists W; iexact HO

theorem wp_collect {s : SemLoc sig} {n : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ s n K)
    (hI : invs I κ ⊢ cellInv ER (rd I) (κ (cell c s)) (cell c s))
    (hn : (rd I).expect (cell c s) 0 = n) {O : CellTallies nD τ sig Unit}
    (hO : (levAts L lv : sProp 𝕄) ⊢ MayWait (c : Thread nD τ) s () O) {P : sProp 𝕄}
    (hP : bigSep ((rd I).duties (cell c s) 0 \ ∅) (fun d => (rd I).payload (cell c s) 0 d) = P) {r : PK F} {Q : PUnit → sProp 𝕄} :
    iprop(ctx I κ ∗ cred (tallyAt (cell c s) () n) ∗ owing c O ∗ atPos ER (cell c s) 0 ∅ 0
        ∗ ((owing c O ∗ atPos ER (cell c s) 1 ∅ 0 ∗ P) -∗ WP c r Q))
      ⊢ WP c (.op w fun _ => r) Q := by
  unfold ctx
  iintro ⟨⟨#Hi, #Hl⟩, Hc, ⟨%W, HO⟩, Ha, Hk⟩
  iapply (Rounds.wp_wait_rest_token 𝒱₀ ER (rd I) (c : Thread nD τ) none (κ := κ (cell c s)) hw (Set.mem_univ _) () (O := O) (W := W)
      (R := 0) (m := 0) (T := ∅) ((Nat.zero_add n).trans hn.symm)) $$ [Hc HO Ha]
  · isplitr; · iapply hI; iexact Hi
    isplitl [Hc]; · iexact Hc
    isplitl [HO]; · iexact HO
    isplitr; · iapply hO; iexact Hl
    iexact Ha
  iintro ⟨HO, Ha, -, Hp⟩
  ihave Hp := (Entails.of_eq hP) $$ Hp
  iapply Hk
  isplitl [HO]; · iexists _; iexact HO
  isplitl [Ha]; · iexact Ha
  iexact Hp

/-! ## The loop rule -/

theorem wp_seqK_aux {f : Fin 16 → PK F → PK F} {Q : PUnit → sProp 𝕄} {r : PK F} (S : ℕ → sProp 𝕄) (In Out : Fin 16 → sProp 𝕄)
    (hstep : ∀ (p : Fin 16) (r : PK F), iprop(S p.val ∗ In p ∗ ((S (p.val + 1) ∗ Out p) -∗ WP c r Q)) ⊢ WP c (f p r) Q) :
    ∀ n k, n + k = 16 → iprop(S k ∗ bigSep (Finset.univ.filter fun p : Fin 16 => k ≤ p.val) In
      ∗ ((S 16 ∗ bigSep (Finset.univ.filter fun p : Fin 16 => k ≤ p.val) Out) -∗ WP c r Q)) ⊢ WP c (seqK f n k r) Q
  | 0, k, h => by
    obtain rfl : k = 16 := by omega
    rw [show (Finset.univ.filter fun p : Fin 16 => 16 ≤ p.val) = ∅ from by decide]
    simp only [bigSep_empty, seqK]
    iintro ⟨Hs, He, Hk⟩
    iapply Hk
    isplitl [Hs]; · iexact Hs
    iexact He
  | n + 1, k, h => by
    have hk : (Fin.ofNat 16 k).val = k := Nat.mod_eq_of_lt (by omega)
    have e : (Finset.univ.filter fun p : Fin 16 => k ≤ p.val) = insert (Fin.ofNat 16 k) (Finset.univ.filter fun p : Fin 16 => k + 1 ≤ p.val) := by
      ext p
      simp only [Finset.mem_filter, Finset.mem_univ, true_and, Finset.mem_insert, Fin.ext_iff, hk]
      omega
    have hn : Fin.ofNat 16 k ∉ (Finset.univ.filter fun p : Fin 16 => k + 1 ≤ p.val) := by
      simp only [Finset.mem_filter, Finset.mem_univ, true_and, hk]; omega
    have hb : ∀ Φ : Fin 16 → sProp 𝕄, bigSep (insert (Fin.ofNat 16 k) (Finset.univ.filter fun p : Fin 16 => k + 1 ≤ p.val)) Φ
      = iprop(Φ (Fin.ofNat 16 k) ∗ bigSep (Finset.univ.filter fun p : Fin 16 => k + 1 ≤ p.val) Φ) := fun Φ => bigSep_insert hn
    rw [e, hb In, hb Out, seqK]
    refine BIBase.Entails.trans ?_ (hstep (Fin.ofNat 16 k) _)
    rw [hk]
    iintro ⟨Hs, ⟨Hi, His⟩, Hk⟩
    isplitl [Hs]; · iexact Hs
    isplitl [Hi]; · iexact Hi
    iintro ⟨Hs, Ho⟩
    iapply (wp_seqK_aux S In Out hstep n (k + 1) (by omega))
    isplitl [Hs]; · iexact Hs
    isplitl [His]; · iexact His
    iintro ⟨Hs, Hos⟩
    iapply Hk
    isplitl [Hs]; · iexact Hs
    isplitl [Ho]; · iexact Ho
    iexact Hos

/-- Sixteen trips. -/
theorem wp_seqK {f : Fin 16 → PK F → PK F} {Q : PUnit → sProp 𝕄} {r : PK F} (S : ℕ → sProp 𝕄) (In Out : Fin 16 → sProp 𝕄)
    (hstep : ∀ (p : Fin 16) (r : PK F), iprop(S p.val ∗ In p ∗ ((S (p.val + 1) ∗ Out p) -∗ WP c r Q)) ⊢ WP c (f p r) Q) :
    iprop(S 0 ∗ bigSep Finset.univ In ∗ ((S 16 ∗ bigSep Finset.univ Out) -∗ WP c r Q)) ⊢ WP c (seqK f 16 0 r) Q := by
  have e : (Finset.univ.filter fun p : Fin 16 => 0 ≤ p.val) = Finset.univ := by decide
  have := wp_seqK_aux (r := r) S In Out hstep 16 0 rfl
  rwa [e] at this

/-! ## Whole buffers -/

theorem zero3 : (![0, 0, 0] : Fin 3 → ℕ) = fun _ => 0 := by decide
theorem zero2 : (![0, 0] : Fin 2 → ℕ) = fun _ => 0 := by decide

theorem read_H (f : FVec F S4x32x1024 .bf16) : mH.view.readAt (Elt F) rH.toLoadRect f = f :=
  Memref.readAt_unit_zero (Elt F) cc0_scratch2 zero3 inb_S4x32x1024_S4x32x1024_0_0_0 f
theorem read_HX (f : FVec F S4x16x1024 .f32) : mHX.view.readAt (Elt F) rHX.toLoadRect f = f :=
  Memref.readAt_unit_zero (Elt F) cc0_scratch0 zero3 inb_S4x16x1024_S4x16x1024_0_0_0 f
theorem read_HB (f : FVec F S4x16x32 .f32) : mHB.view.readAt (Elt F) rHB.toLoadRect f = f :=
  Memref.readAt_unit_zero (Elt F) cc0_scratch1 zero3 inb_S4x16x32_S4x16x32_0_0_0 f
theorem write_H (f v : FVec F S4x32x1024 .bf16) : (mH.access rH).write (Elt F) f v Finset.univ = v :=
  Memref.write_access_unit_zero_univ (Elt F) cc0_scratch2 zero3 inb_S4x32x1024_S4x32x1024_0_0_0 f v
theorem write_HX (f v : FVec F S4x16x1024 .f32) : (mHX.access rHX).write (Elt F) f v Finset.univ = v :=
  Memref.write_access_unit_zero_univ (Elt F) cc0_scratch0 zero3 inb_S4x16x1024_S4x16x1024_0_0_0 f v
theorem write_HB (f v : FVec F S4x16x32 .f32) : (mHB.access rHB).write (Elt F) f v Finset.univ = v :=
  Memref.write_access_unit_zero_univ (Elt F) cc0_scratch1 zero3 inb_S4x16x32_S4x16x32_0_0_0 f v

/-- A whole buffer is its view's elements. -/
theorem bufAt_set (d : Dev nD) (b : Ref sig .tc) (q : PosShare TreeShare) (f : b.ty.Contents (Elt F)) :
    (bufAt d b q f : sProp 𝕄) = (Memref.whole b).view.loc (d : Thread nD τ) ↦[(Memref.whole b).view.set]{q} f := by
  rw [show (Memref.whole b).view.set = Finset.univ from View.set_whole _]

theorem wp_ldH {f : FVec F S4x32x1024 .bf16} {k : Vec F S4x32x1024 .bf16 → PK F} {Q : PUnit → sProp 𝕄} :
    iprop(bufAt c cc0_scratch2 fullShare f ∗ (bufAt c cc0_scratch2 fullShare f -∗ WP c (k f) Q)) ⊢ WP c (ldH k) Q := by
  iintro ⟨H, Hk⟩
  unfold ldH
  iapply (wp_load 𝒱₀ (c : Thread nD τ) none Set.univ (Finset.subset_univ _)) $$ H
  rw [read_H]
  iexact Hk

theorem wp_stH {f v : FVec F S4x32x1024 .bf16} {r : PK F} {Q : PUnit → sProp 𝕄} :
    iprop(bufAt c cc0_scratch2 fullShare f ∗ (bufAt c cc0_scratch2 fullShare v -∗ WP c r Q)) ⊢ WP c (stH v r) Q := by
  iintro ⟨H, Hk⟩
  unfold stH
  iapply (wp_store 𝒱₀ (c : Thread nD τ) none Set.univ (m := mH) (r := rH) (f := f) (Finset.subset_univ _)) $$ H
  rw [write_H]
  iexact Hk

/-! ## The entry barrier -/

theorem wp_entry {r : PK F} {Q : PUnit → sProp 𝕄} :
    iprop(ctx I κ ∗ owing c (O₀ c) ∗ (dutyTok ER (cell (xn c) (.reg barS)) 0 false ∗ reached ER (cell (xn c) (.reg barS)) 0 ∗ giveX c)
        ∗ (dutyTok ER (cell (yn c) (.reg barS)) 0 true ∗ reached ER (cell (yn c) (.reg barS)) 0 ∗ giveY c)
        ∗ (cred (tallyAt (cell c (.reg barS)) () 2) ∗ atPos ER (cell c (.reg barS)) 0 ∅ 0)
        ∗ ((owing c (oweMid c) ∗ atPos ER (cell c (.reg barS)) 1 ∅ 0 ∗ giveX (xn c) ∗ giveY (yn c)) -∗ WP c r Q))
      ⊢ WP c (entry c r) Q := by
  iintro ⟨#Hx, HO, ⟨Ht1, Hr1, Hg1⟩, ⟨Ht2, Hr2, Hg2⟩, ⟨Hc, Ha⟩, Hk⟩
  unfold entry
  iapply (wp_raise1 I κ (c := c) (d := xn c) (s := barS) (b := false) rfl (Finset.mem_univ _) (inv_bar I κ (xn c))
    (O := oweMid c + tallyAt (cell (yn c) (.reg barS)) () 1))
  isplitr; · iexact Hx
  isplitl [HO]; · unfold O₀; iexact HO
  isplitl [Ht1]; · iexact Ht1
  isplitl [Hg1]
  · rw [role_bar, show hands I (xn c) false .bar = giveX (xn (xn c)) from rfl, xn_xn]; iexact Hg1
  isplitl [Hr1]; · iexact Hr1
  iintro HO
  iapply (wp_raise1 I κ (c := c) (d := yn c) (s := barS) (b := true) rfl (Finset.mem_univ _) (inv_bar I κ (yn c)) (O := oweMid c))
  isplitr; · iexact Hx
  isplitl [HO]; · iexact HO
  isplitl [Ht2]; · iexact Ht2
  isplitl [Hg2]
  · rw [role_bar, show hands I (yn c) true .bar = giveY (yn (yn c)) from rfl, yn_yn]; iexact Hg2
  isplitl [Hr2]; · iexact Hr2
  iintro HO
  iapply (wp_collect I κ (wpE_semWait_eq 𝒱₀ (c : Thread nD τ) none Set.univ) (inv_bar I κ c) (expect_bar I c)
    (mayWait c (.reg barS) (Nat.le_refl 1) (above_mid c)) (rest_bar I c))
  isplitr; · iexact Hx
  isplitl [Hc]; · iexact Hc
  isplitl [HO]; · iexact HO
  isplitl [Ha]; · iexact Ha
  iintro ⟨HO, Ha, Hp1, Hp2⟩
  iapply Hk
  isplitl [HO]; · iexact HO
  isplitl [Ha]; · iexact Ha
  isplitl [Hp1]; · iexact Hp1
  iexact Hp2

/-! ## The warm-up rows sent on -/

/-- What a transfer leaves in the receiver's buffer. -/
theorem landedX (fd : (cc0_scratch0 : Ref sig .tc).ty.Contents (Elt F)) :
    mHX.view.write (Elt F) fd (sXe.view.read (Elt F) (I.x c)) Finset.univ = haloX I c := by
  funext i; exact congrFun (View.read_write_univ (v := mHX.view) fd (sXe.view.read (Elt F) (I.x c))) i
theorem landedB (fd : (cc0_scratch1 : Ref sig .tc).ty.Contents (Elt F)) :
    mHB.view.write (Elt F) fd (sBe.view.read (Elt F) (I.b c)) Finset.univ = haloB I c := by
  funext i; exact congrFun (View.read_write_univ (v := mHB.view) fd (sBe.view.read (Elt F) (I.b c))) i

theorem hands_hs0 (b : Bool) : hands I c b (.hs 0) = lentX I c := rfl
theorem hands_hs1 (b : Bool) : hands I c b (.hs 1) = lentB I c := rfl
theorem hands_hr0 (b : Bool) : hands I c b (.hr 0) = bufAt c cc0_scratch0 fullShare (haloX I (xn c)) := rfl
theorem hands_hr1 (b : Bool) : hands I c b (.hr 1) = bufAt c cc0_scratch1 fullShare (haloB I (xn c)) := rfl
theorem units_hs0 : units (.hs 0) = NX := rfl
theorem units_hs1 : units (.hs 1) = NB := rfl
theorem units_hr0 : units (.hr 0) = NX := rfl
theorem units_hr1 : units (.hr 1) = NB := rfl

theorem duty_true (h : fst c = true) (i : Fin 2) : duty c (role (.dma (hsS i))) = {false} := by rw [role_hs, duty, h]; rfl
theorem duty_recv (h : fst c = false) (i : Fin 2) : duty c (role (.dma (hrS i))) = {false} := by rw [role_hr, duty, h]; rfl
theorem duty_ack (h : fst c = true) : duty c (role (.reg ackS)) = {false} := by rw [role_ack, duty, h]; rfl
theorem duty_ps (p : Fin 16) : duty c (role (.dma (psS p))) = {false} := by rw [role_ps, duty]
theorem duty_pr (p : Fin 16) : duty c (role (.dma (prS p))) = {false} := by rw [role_pr, duty]
theorem duty_exit : duty c (role (.reg exitS)) = {false} := rfl

set_option maxHeartbeats 1600000 in
theorem wp_sendHalo (hf : fst c = true) {r : PK F} {Q : PUnit → sProp 𝕄} :
    iprop(ctx I κ ∗ owing c (oweMid c) ∗ giveX (xn c)
        ∗ (lentX I c ∗ dutyTok ER (cell c (.dma (hsS 0))) 0 false ∗ reached ER (cell c (.dma (hsS 0))) 0 ∗ dutyTok ER (cell (xn c) (.dma (hrS 0))) 0 false)
        ∗ (lentB I c ∗ dutyTok ER (cell c (.dma (hsS 1))) 0 false ∗ reached ER (cell c (.dma (hsS 1))) 0 ∗ dutyTok ER (cell (xn c) (.dma (hrS 1))) 0 false)
        ∗ ((owing c (owePieces c 16) ∗ cred (tallyAt (cell c (.dma (hsS 0))) () NX) ∗ cred (tallyAt (cell c (.dma (hsS 1))) () NB)) -∗ WP c r Q))
      ⊢ WP c (sendHalo c r) Q := by
  have hx : fst (xn c) = false := by rw [fst_xn, hf]; rfl
  unfold giveX oweMid ctx
  rw [hx, hf]
  dsimp only [cond]
  iintro ⟨⟨#Hi, -⟩, ⟨%W, HO⟩, ⟨⟨⟨%f0, Hd0⟩, %f1, Hd1⟩, Hq0, Hq1⟩, ⟨Hs0, Ht0, Hr0, Hu0⟩, ⟨Hs1, Ht1, Hr1, Hu1⟩, Hk⟩
  unfold sendHalo
  iapply (Rounds.wp_send_pointsTo 𝒱₀ ER (rd I) (c : Thread nD τ) none (c' := (xn c : Thread nD τ)) (src := sXe) (dst := mHX)
      (sS := .dma (hsS 0)) (sem := .dma (hrS 0)) (q := fullShare.left) (fs := I.x c) (κ₁ := κ (cell c (.dma (hsS 0)))) (κ₂ := κ (cell (xn c) (.dma (hrS 0))))
      (r₁ := 0) (r₂ := 0) (d₁ := false) (d₂ := false) (fd := f0)
      (by rw [duties_zero, duty_true hf]; exact Finset.mem_singleton_self _) (by rw [duties_zero, duty_recv hx]; exact Finset.mem_singleton_self _)
      () () NX rfl (by rw [amount_eq, role_hs, units_hs0]) (by rw [amount_eq, role_hr, units_hr0])
      (owePieces c 16 + tallyAt (cell (xn c) (.dma (hrS 1))) () NB) rfl (W := W)
      (by rw [payload_eq, role_hs, hands_hs0])
      (by rw [payload_eq, role_hr, hands_hr0, xn_xn, landedX, View.set_whole])) $$ [HO Hs0 Ht0 Hr0 Hu0 Hd0 Hq0]
  · isplitr; · iapply (inv_own I κ c (.inl (.inl 0))); iexact Hi
    isplitr; · iapply (inv_own I κ (xn c) (.inl (.inr 0))); iexact Hi
    isplitl [Hs0]; · iexact Hs0
    isplitl [Hd0]; · iapply (Entails.of_eq (bufAt_set (xn c) cc0_scratch0 fullShare f0)); iexact Hd0
    isplitl [HO]; · iexact HO
    isplitl [Ht0]; · iexact Ht0
    isplitl [Hr0]; · iexact Hr0
    isplitl [Hu0]; · iexact Hu0
    iexact Hq0
  iintro ⟨Hc0, HO⟩
  iapply (Rounds.wp_send_pointsTo 𝒱₀ ER (rd I) (c : Thread nD τ) none (c' := (xn c : Thread nD τ)) (src := sBe) (dst := mHB)
      (sS := .dma (hsS 1)) (sem := .dma (hrS 1)) (q := fullShare.left) (fs := I.b c) (κ₁ := κ (cell c (.dma (hsS 1)))) (κ₂ := κ (cell (xn c) (.dma (hrS 1))))
      (r₁ := 0) (r₂ := 0) (d₁ := false) (d₂ := false) (fd := f1)
      (by rw [duties_zero, duty_true hf]; exact Finset.mem_singleton_self _) (by rw [duties_zero, duty_recv hx]; exact Finset.mem_singleton_self _)
      () () NB rfl (by rw [amount_eq, role_hs, units_hs1]) (by rw [amount_eq, role_hr, units_hr1])
      (owePieces c 16) rfl (W := W)
      (by rw [payload_eq, role_hs, hands_hs1])
      (by rw [payload_eq, role_hr, hands_hr1, xn_xn, landedB, View.set_whole])) $$ [HO Hs1 Ht1 Hr1 Hu1 Hd1 Hq1]
  · isplitr; · iapply (inv_own I κ c (.inl (.inl 1))); iexact Hi
    isplitr; · iapply (inv_own I κ (xn c) (.inl (.inr 1))); iexact Hi
    isplitl [Hs1]; · iexact Hs1
    isplitl [Hd1]; · iapply (Entails.of_eq (bufAt_set (xn c) cc0_scratch1 fullShare f1)); iexact Hd1
    isplitl [HO]; · iexact HO
    isplitl [Ht1]; · iexact Ht1
    isplitl [Hr1]; · iexact Hr1
    isplitl [Hu1]; · iexact Hu1
    iexact Hq1
  iintro ⟨Hc1, HO⟩
  iapply Hk
  isplitl [HO]; · iexists W; iexact HO
  isplitl [Hc0]; · iexact Hc0
  iexact Hc1

/-! ## The start, and the rows received -/

theorem wp_start {f : FVec F S4x32x1024 .bf16} {k : FVec F S1x32x1024 .bf16 → PK F} {Q : PUnit → sProp 𝕄} :
    iprop(bufAt c cc0_scratch2 fullShare f ∗ bufAt c cc0_stg1_0 fullShare (I.a c)
        ∗ ((bufAt c cc0_scratch2 fullShare hzero ∗ bufAt c cc0_stg1_0 fullShare (I.a c)) -∗ WP c (k (dec I c)) Q)) ⊢ WP c (start k) Q := by
  iintro ⟨H, Ha, Hk⟩
  unfold start
  iapply wp_ldH
  isplitl [H]; · iexact H
  iintro H
  iapply wp_stH
  isplitl [H]; · iexact H
  iintro H
  iapply (wp_load 𝒱₀ (c : Thread nD τ) none Set.univ (Finset.subset_univ _)) $$ Ha
  iintro Ha
  iapply Hk
  isplitl [H]; · iexact H
  iexact Ha

theorem wp_recvHalo (hf : fst c = false) {r : PK F} {Q : PUnit → sProp 𝕄} :
    iprop(ctx I κ ∗ owing c (oweMid c) ∗ giveX (F := F) (xn c) ∗ dutyTok ER (cell (xn c) (.reg ackS)) 0 false
        ∗ (cred (tallyAt (cell c (.dma (hrS 0))) () NX) ∗ atPos ER (cell c (.dma (hrS 0))) 0 ∅ 0)
        ∗ (cred (tallyAt (cell c (.dma (hrS 1))) () NB) ∗ atPos ER (cell c (.dma (hrS 1))) 0 ∅ 0)
        ∗ ((owing c (owePieces c 16) ∗ (bufAt c cc0_scratch0 fullShare (haloX I (xn c)) ∗ atPos ER (cell c (.dma (hrS 0))) 1 ∅ 0)
            ∗ (bufAt c cc0_scratch1 fullShare (haloB I (xn c)) ∗ atPos ER (cell c (.dma (hrS 1))) 1 ∅ 0)) -∗ WP c r Q))
      ⊢ WP c (recvHalo c r) Q := by
  have hx : fst (xn c) = true := by rw [fst_xn, hf]; rfl
  have hm : Above 2 (oweMid c) := by
    unfold oweMid; rw [hf]
    exact (above_pieces c 16).add (Above.tally _ _ _ (by rw [role_ack]; decide))
  unfold giveX
  rw [hx]
  dsimp only [cond]
  iintro ⟨#Hx, HO, Hq, Ht, ⟨Hc0, Ha0⟩, ⟨Hc1, Ha1⟩, Hk⟩
  unfold recvHalo
  iapply (wp_collect I κ (wpE_waitDma2_eq 𝒱₀ (c : Thread nD τ) none Set.univ) (inv_own I κ c (.inl (.inr 0)))
    ((expect_one I c _ (duty_recv hf 0)).trans (by rw [role_hr, units_hr0]; rfl))
    (mayWait c (.dma (hrS 0)) (n := 2) (by rw [role_hr]; exact Nat.le_refl 2) hm)
    ((rest_one I c _ (duty_recv hf 0)).trans (by rw [role_hr, hands_hr0])))
  isplitr; · iexact Hx
  isplitl [Hc0]; · iexact Hc0
  isplitl [HO]; · iexact HO
  isplitl [Ha0]; · iexact Ha0
  iintro ⟨HO, Ha0, Hp0⟩
  iapply (wp_collect I κ (wpE_waitDma2_eq 𝒱₀ (c : Thread nD τ) none Set.univ) (inv_own I κ c (.inl (.inr 1)))
    ((expect_one I c _ (duty_recv hf 1)).trans (by rw [role_hr, units_hr1]; rfl))
    (mayWait c (.dma (hrS 1)) (n := 2) (by rw [role_hr]; exact Nat.le_refl 2) hm)
    ((rest_one I c _ (duty_recv hf 1)).trans (by rw [role_hr, hands_hr1])))
  isplitr; · iexact Hx
  isplitl [Hc1]; · iexact Hc1
  isplitl [HO]; · iexact HO
  isplitl [Ha1]; · iexact Ha1
  iintro ⟨HO, Ha1, Hp1⟩
  iapply (wp_raise1 I κ (c := c) (d := xn c) (s := ackS) (b := false) rfl (by rw [duty_ack hx]; exact Finset.mem_singleton_self _)
    (inv_own I κ (xn c) (.inr (.inr (.inl ())))) (O := owePieces c 16))
  isplitr; · iexact Hx
  isplitl [HO]
  · unfold oweMid; rw [hf]; iexact HO
  isplitl [Ht]; · iexact Ht
  isplitr; · rw [role_ack]; unfold hands; iempintro
  isplitl [Hq]; · iexact Hq
  iintro HO
  iapply Hk
  isplitl [HO]; · iexact HO
  isplitl [Hp0 Ha0]
  · isplitl [Hp0]; · iexact Hp0
    iexact Ha0
  · isplitl [Hp1]; · iexact Hp1
    iexact Ha1

/-! ## The rows before the own half -/

abbrev readX : sProp 𝕄 := bufAt c cc0_stg0_0 fullShare.right (I.x c)
abbrev readB : sProp 𝕄 := bufAt c cc0_stg2_0 fullShare.right (I.b c)

theorem wp_ownHalo {r : PK F} {Q : PUnit → sProp 𝕄} :
    iprop(readX (c := c) I ∗ readB (c := c) I ∗ bufAny c cc0_scratch0 ∗ bufAny c cc0_scratch1
        ∗ ((readX (c := c) I ∗ readB (c := c) I ∗ bufAt c cc0_scratch0 fullShare (wxcopy (mX.view.readAt (Elt F) rXw.toLoadRect (I.x c)))
            ∗ bufAt c cc0_scratch1 fullShare (wbcopy (mB.view.readAt (Elt F) rBw.toLoadRect (I.b c)))) -∗ WP c r Q))
      ⊢ WP c (ownHalo r) Q := by
  iintro ⟨Hx, Hb, ⟨%f0, H0⟩, ⟨%f1, H1⟩, Hk⟩
  unfold ownHalo
  iapply (wp_load 𝒱₀ (c : Thread nD τ) none Set.univ (Finset.subset_univ _)) $$ Hx; iintro Hx
  iapply (wp_load 𝒱₀ (c : Thread nD τ) none Set.univ (Finset.subset_univ _)) $$ H0; iintro H0
  iapply (wp_store 𝒱₀ (c : Thread nD τ) none Set.univ (m := mHX) (r := rHX) (f := f0) (Finset.subset_univ _)) $$ H0
  rw [write_HX]
  iintro H0
  iapply (wp_load 𝒱₀ (c : Thread nD τ) none Set.univ (Finset.subset_univ _)) $$ Hb; iintro Hb
  iapply (wp_load 𝒱₀ (c : Thread nD τ) none Set.univ (Finset.subset_univ _)) $$ H1; iintro H1
  iapply (wp_store 𝒱₀ (c : Thread nD τ) none Set.univ (m := mHB) (r := rHB) (f := f1) (Finset.subset_univ _)) $$ H1
  rw [write_HB]
  iintro H1
  iapply Hk
  isplitl [Hx]; · iexact Hx
  isplitl [Hb]; · iexact Hb
  isplitl [H0]; · iexact H0
  iexact H1

/-! ## The warm-up -/

theorem wp_warmAt {Q : PUnit → sProp 𝕄} (p : Fin 16) (r : PK F) :
    iprop(bufAt c cc0_scratch2 fullShare (warmed I c p.val) ∗ iprop(emp)
        ∗ ((bufAt c cc0_scratch2 fullShare (warmed I c (p.val + 1)) ∗ iprop(emp)) -∗ WP c r Q))
      ⊢ WP c (warmAt (dec I c) (wxin (warmX I c)) (wbin (warmB I c)) p r) Q := by
  iintro ⟨H, -, Hk⟩
  unfold warmAt
  iapply wp_ldH
  isplitl [H]; · iexact H
  iintro H
  iapply wp_ldH
  isplitl [H]; · iexact H
  iintro H
  iapply wp_stH
  isplitl [H]; · iexact H
  iintro H
  iapply Hk
  isplitl [H]
  · rw [warmed, Fin.ofNat_val_eq_self]; iexact H
  iempintro

theorem bigSep_emp_intro : iprop(emp) ⊢ (bigSep (Finset.univ : Finset (Fin 16)) fun _ => (iprop(emp) : sProp 𝕄)) :=
  Entails.of_eq (bigSep_emp_const _).symm

theorem wp_warm {r : PK F} {Q : PUnit → sProp 𝕄} :
    iprop(bufAt c cc0_scratch0 fullShare (warmX I c) ∗ bufAt c cc0_scratch1 fullShare (warmB I c) ∗ bufAt c cc0_scratch2 fullShare hzero
        ∗ ((bufAt c cc0_scratch0 fullShare (warmX I c) ∗ bufAt c cc0_scratch1 fullShare (warmB I c)
            ∗ bufAt c cc0_scratch2 fullShare (warmed I c 16)) -∗ WP c r Q))
      ⊢ WP c (warm (dec I c) r) Q := by
  iintro ⟨H0, H1, H, Hk⟩
  unfold warm
  iapply (wp_load 𝒱₀ (c : Thread nD τ) none Set.univ (Finset.subset_univ _)) $$ H0; iintro H0
  iapply (wp_load 𝒱₀ (c : Thread nD τ) none Set.univ (Finset.subset_univ _)) $$ H1; iintro H1
  rw [read_HX, read_HB]
  iapply (wp_seqK (c := c) (fun k => bufAt c cc0_scratch2 fullShare (warmed I c k)) (fun _ => iprop(emp)) (fun _ => iprop(emp))
    (wp_warmAt I))
  isplitl [H]; · iexact H
  isplitr
  · iapply (bigSep_emp_intro (F := F)); iempintro
  iintro ⟨H, -⟩
  iapply Hk
  isplitl [H0]; · iexact H0
  isplitl [H1]; · iexact H1
  iexact H

end Cert.KernelIdeal.Scan
-- ==== Proof.Ideal.Pieces.lean ====
/-
The scan's pieces, the exchange and the exit, as steps.

A piece's trip reads the inputs, takes the state on by thirty-two steps, stores its rows of the result and sends them to
the neighbour. A later trip waits for the neighbour's piece and stores it in the other half of the result. What the
result's buffer holds is carried as what its pieces read.
-/
module

public import proofs.«01_k».proof.Proof.Ideal.Steps

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F) (κ : GSem nD τ sig → ℕ) {c : Dev nD}

local notation "𝕄" => MT nD τ sig Unit (Elt F) ℕ UU ℕ

/-! ## The result's buffer by its pieces -/

abbrev YBuf (F : FTy → Type) [FloatOps F] : Type := (cc0_stg4_0 : Ref sig .tc).ty.Contents (Elt F)
/-- Piece `p` of half `h` of a result. -/
def yat (f : YBuf F) (h : ℕ) (p : Fin 16) : FVec F S4x32x1024 .f32 := mY.view.readAt (Elt F) (rX h p).toLoadRect f
/-- A result with piece `p` of half `h` stored. -/
def yput (f : YBuf F) (h : ℕ) (p : Fin 16) (w : FVec F S4x32x1024 .f32) : YBuf F := (mY.access (rX h p)).write (Elt F) f w Finset.univ

theorem yat_yput (f : YBuf F) (h : ℕ) (p : Fin 16) (w : FVec F S4x32x1024 .f32) : yat (yput f h p w) h p = w := by
  show (mY.access (rX h p)).read (Elt F) ((mY.access (rX h p)).write (Elt F) f w Finset.univ) = w
  exact View.read_write_univ _ _

theorem yat_yput_ne (f : YBuf F) {h h' : ℕ} {p q : Fin 16} (hn : row h q ≠ row h' p) (w : FVec F S4x32x1024 .f32) :
    yat (yput f h' p w) h q = yat f h q := by
  refine View.read_slice_write_slice_of_disjoint (v := mY.view) (rX h q) (rX h' p) f w (M := Finset.univ) ?_
  rw [View.setOn_univ, View.set_slice, View.set_slice, Finset.disjoint_map, Finset.disjoint_left]
  intro i hi hi'
  have h1 := (Rect.mem_set_unit.mp hi) 1
  have h2 := (Rect.mem_set_unit.mp hi') 1
  have e1 : (![0, row h q, 0] : Fin 3 → ℕ) 1 = row h q := rfl
  have e2 : (![0, row h' p, 0] : Fin 3 → ℕ) 1 = row h' p := rfl
  have e3 : S4x32x1024.size 1 = 32 := rfl
  rw [e1, e3] at h1; rw [e2, e3] at h2
  have := p.isLt; have := q.isLt
  unfold row at hn h1 h2
  have := Nat.mod_lt h (show 0 < 2 by decide); have := Nat.mod_lt h' (show 0 < 2 by decide)
  omega

theorem row_ne_of_lt {h : ℕ} {p q : Fin 16} (hpq : q.val < p.val) : row h q ≠ row h p := by unfold row; omega
theorem row_ne_half (h : ℕ) (p q : Fin 16) : row h q ≠ row (h + 1) p := by
  have := p.isLt; have := q.isLt
  unfold row
  have := Nat.mod_lt h (show 0 < 2 by decide); have := Nat.mod_lt (h + 1) (show 0 < 2 by decide)
  omega

/-- The own half's first `k` pieces are in. -/
def Mine (c : Dev nD) (k : ℕ) (f : YBuf F) : Prop := ∀ q : Fin 16, q.val < k → yat f c.val q = own I c q
/-- The other half's first `k` pieces are in. -/
def Theirs (c : Dev nD) (k : ℕ) (f : YBuf F) : Prop := ∀ q : Fin 16, q.val < k → yat f (c.val + 1) q = yrecv (wire I (yn c) q)

theorem Mine.put {k : Fin 16} {f : YBuf F} (h : Mine I c k.val f) : Mine I c (k.val + 1) (yput f c.val k (own I c k)) := fun q hq => by
  rcases Nat.lt_succ_iff_lt_or_eq.mp hq with hlt | heq
  · rw [yat_yput_ne f (row_ne_of_lt hlt)]; exact h q hlt
  · rw [Fin.ext heq, yat_yput]
theorem Theirs.put {k : Fin 16} {f : YBuf F} (h : Theirs I c k.val f) :
    Theirs I c (k.val + 1) (yput f (c.val + 1) k (yrecv (wire I (yn c) k))) := fun q hq => by
  rcases Nat.lt_succ_iff_lt_or_eq.mp hq with hlt | heq
  · rw [yat_yput_ne f (row_ne_of_lt hlt)]; exact h q hlt
  · rw [Fin.ext heq, yat_yput]
theorem Mine.keep {k : Fin 16} {f : YBuf F} (h : Mine I c 16 f) (w : FVec F S4x32x1024 .f32) : Mine I c 16 (yput f (c.val + 1) k w) := fun q hq => by
  rw [yat_yput_ne f (row_ne_half c.val k q)]; exact h q hq

/-! ## One piece -/

def scanS (c : Dev nD) (k : ℕ) : sProp 𝕄 :=
  iprop(ctx I κ ∗ readX (c := c) I ∗ readB (c := c) I ∗ bufAt c cc0_stg3_0 fullShare (I.l c) ∗ bufAt c cc0_scratch2 fullShare (state I c k)
    ∗ (∃ f : YBuf F, ⌜Mine I c k f⌝ ∗ bufAt c cc0_stg4_0 fullShare f) ∗ owing c (owePieces c (16 - k)))
def scanIn (c : Dev nD) (p : Fin 16) : sProp 𝕄 :=
  iprop((dutyTok ER (cell c (.dma (psS p))) 0 false ∗ reached ER (cell c (.dma (psS p))) 0) ∗ dutyTok ER (cell (yn c) (.dma (prS p))) 0 false
    ∗ (inAny (yn c) p ∗ reached ER (cell (yn c) (.dma (prS p))) 0) ∗ outAny c p)
def scanOut (c : Dev nD) (p : Fin 16) : sProp 𝕄 := cred (tallyAt (cell c (.dma (psS p))) () NP)

theorem state_succ (p : Fin 16) : state I c (p.val + 1) = hst (hs (dec I c) (px I c p) (pb I c p) (state I c p.val) 32) := by
  rw [state, Fin.ofNat_val_eq_self]

theorem owe_split (c : Dev nD) (p : Fin 16) :
    owePieces c (16 - p.val) = owePieces c (16 - (p.val + 1)) + tallyAt (cell (yn c) (.dma (prS p))) () NP := by
  have := p.isLt
  have e : 16 - p.val = (16 - (p.val + 1)) + 1 := by omega
  have e' : Fin.ofNat 16 (15 - (16 - (p.val + 1))) = p := by
    have : 15 - (16 - (p.val + 1)) = p.val := by omega
    rw [this, Fin.ofNat_val_eq_self]
  rw [e, owePieces, e']

set_option maxHeartbeats 1000000 in
theorem wp_piece {Q : PUnit → sProp 𝕄} (p : Fin 16) (r : PK F) :
    iprop(scanS I κ c p.val ∗ scanIn c p ∗ ((scanS I κ c (p.val + 1) ∗ scanOut c p) -∗ WP c r Q)) ⊢ WP c (piece c (dec I c) p r) Q := by
  unfold scanS scanIn scanOut ctx
  rw [owe_split]
  iintro ⟨⟨⟨#Hi, #Hl⟩, Hx, Hb, HL, H, ⟨%f, %hf, HY⟩, %W, HO⟩, ⟨⟨Ht, Hr⟩, Hu, ⟨⟨%fd, Hd⟩, Hq⟩, %fs, Hs⟩, Hk⟩
  unfold piece
  iapply (wp_load 𝒱₀ (c : Thread nD τ) none Set.univ (Finset.subset_univ _)) $$ Hx; iintro Hx
  iapply (wp_load 𝒱₀ (c : Thread nD τ) none Set.univ (Finset.subset_univ _)) $$ Hb; iintro Hb
  iapply (wp_load 𝒱₀ (c : Thread nD τ) none Set.univ (Finset.subset_univ _)) $$ HL; iintro HL
  iapply wp_ldH
  isplitl [H]; · iexact H
  iintro H
  iapply wp_ldH
  isplitl [H]; · iexact H
  iintro H
  iapply wp_stH
  isplitl [H]; · iexact H
  iintro H
  iapply (wp_load 𝒱₀ (c : Thread nD τ) none Set.univ (Finset.subset_univ _)) $$ HY; iintro HY
  iapply (wp_store 𝒱₀ (c : Thread nD τ) none Set.univ (m := mY) (r := rX c.val p) (f := f) (Finset.subset_univ _)) $$ HY
  iintro HY
  iapply (wp_load_rect 𝒱₀ (c : Thread nD τ) none Set.univ (m := mSO) (r := rP p) (f := fs) (Finset.Subset.refl _)) $$ Hs
  iintro Hs
  iapply (wp_store 𝒱₀ (c : Thread nD τ) none Set.univ (m := mSO) (r := rP p) (f := fs) (S := (mSO.access (rP p)).set)
    (by rw [View.setOn_univ])) $$ Hs
  iintro Hs
  iapply (Rounds.wp_send_pointsTo 𝒱₀ ER (rd I) (c : Thread nD τ) none (c' := (yn c : Thread nD τ)) (src := sSO p) (dst := sSI p)
      (sS := .dma (psS p)) (sem := .dma (prS p)) (q := fullShare)
      (fs := (mSO.access (rP p)).write (Elt F) fs (wire I c p) Finset.univ) (κ₁ := κ (cell c (.dma (psS p)))) (κ₂ := κ (cell (yn c) (.dma (prS p))))
      (r₁ := 0) (r₂ := 0) (d₁ := false) (d₂ := false) (fd := fd)
      (by rw [duties_zero, duty_ps]; exact Finset.mem_singleton_self _) (by rw [duties_zero, duty_pr]; exact Finset.mem_singleton_self _)
      () () NP rfl (by rw [amount_eq, role_ps]; rfl) (by rw [amount_eq, role_pr]; rfl)
      (owePieces c (16 - (p.val + 1))) rfl (W := W)
      (by rw [payload_eq, role_ps]; show _ ⊢ outAny c p; iintro H; iexists _; iexact H)
      (by
        rw [payload_eq, role_pr]; show _ ⊢ inGot I (yn c) p
        iintro H; iexists _
        isplitr
        rotate_left
        · iexact H
        · ipureintro
          rw [View.read_write_univ, yn_yn]
          exact View.read_write_univ _ _)) $$ [HO Hs Ht Hr Hu Hd Hq]
  · isplitr; · iapply (inv_own I κ c (.inr (.inl (.inl p)))); iexact Hi
    isplitr; · iapply (inv_own I κ (yn c) (.inr (.inl (.inr p)))); iexact Hi
    isplitl [Hs]; · iexact Hs
    isplitl [Hd]; · iexact Hd
    isplitl [HO]; · iexact HO
    isplitl [Ht]; · iexact Ht
    isplitl [Hr]; · iexact Hr
    isplitl [Hu]; · iexact Hu
    iexact Hq
  iintro ⟨Hc, HO⟩
  iapply Hk
  isplitr [Hc]
  · isplitr
    · isplitr; · iexact Hi
      iexact Hl
    isplitl [Hx]; · iexact Hx
    isplitl [Hb]; · iexact Hb
    isplitl [HL]; · iexact HL
    isplitl [H]; · rw [state_succ]; iexact H
    isplitl [HY]
    · iexists (yput f c.val p (own I c p))
      isplitr; · ipureintro; exact Mine.put I hf
      iexact HY
    iexists W; iexact HO
  iexact Hc

/-! ## The neighbour's piece -/

def takeS (c : Dev nD) (k : ℕ) : sProp 𝕄 :=
  iprop(ctx I κ ∗ (∃ f : YBuf F, ⌜Mine I c 16 f ∧ Theirs I c k f⌝ ∗ bufAt c cc0_stg4_0 fullShare f) ∗ owing c (owePieces c 0))
def takeIn (c : Dev nD) (p : Fin 16) : sProp 𝕄 := iprop(cred (tallyAt (cell c (.dma (prS p))) () NP) ∗ atPos ER (cell c (.dma (prS p))) 0 ∅ 0)
def takeOut (c : Dev nD) (p : Fin 16) : sProp 𝕄 := iprop(inAny c p ∗ atPos ER (cell c (.dma (prS p))) 1 ∅ 0)

set_option maxHeartbeats 1000000 in
theorem wp_take {Q : PUnit → sProp 𝕄} (p : Fin 16) (r : PK F) :
    iprop(takeS I κ c p.val ∗ takeIn c p ∗ ((takeS I κ c (p.val + 1) ∗ takeOut c p) -∗ WP c r Q)) ⊢ WP c (take c p r) Q := by
  unfold takeS takeIn takeOut
  iintro ⟨⟨#Hx, ⟨%f, %hf, HY⟩, HO⟩, ⟨Hc, Ha⟩, Hk⟩
  unfold take
  iapply (wp_collect I κ (wpE_waitDma2_eq 𝒱₀ (c : Thread nD τ) none Set.univ) (inv_own I κ c (.inr (.inl (.inr p))))
    ((expect_one I c _ (duty_pr p)).trans (by rw [role_pr]; rfl))
    (mayWait c (.dma (prS p)) (n := 3) (by rw [role_pr]; exact Nat.le_refl 3) (above_exit c))
    ((rest_one I c _ (duty_pr p)).trans (by rw [role_pr]; rfl : hands I c false (role (.dma (prS p))) = inGot I c p)))
  isplitr; · iexact Hx
  isplitl [Hc]; · iexact Hc
  isplitl [HO]; · iexact HO
  isplitl [Ha]; · iexact Ha
  iintro ⟨HO, Ha, %g, %hg, Hg⟩
  iapply (wp_load_rect 𝒱₀ (c : Thread nD τ) none Set.univ (m := mSI) (r := rP p) (f := g) (Finset.Subset.refl _)) $$ Hg
  rw [show (mSI.access (rP p)).read (Elt F) g = wire I (yn c) p from hg]
  iintro Hg
  iapply (wp_load 𝒱₀ (c : Thread nD τ) none Set.univ (Finset.subset_univ _)) $$ HY; iintro HY
  iapply (wp_store 𝒱₀ (c : Thread nD τ) none Set.univ (m := mY) (r := rX (c.val + 1) p) (f := f) (Finset.subset_univ _)) $$ HY
  iintro HY
  iapply Hk
  isplitl [HY HO]
  · isplitr; · iexact Hx
    isplitl [HY]
    · iexists (yput f (c.val + 1) p (yrecv (wire I (yn c) p)))
      isplitr; · ipureintro; exact ⟨Mine.keep I hf.1 _, Theirs.put I hf.2⟩
      iexact HY
    iexact HO
  isplitl [Hg]; · iexists g; iexact Hg
  iexact Ha

/-! ## The own piece sent -/

def sentS (c : Dev nD) : sProp 𝕄 := iprop(ctx I κ ∗ owing c (owePieces c 0))
def sentIn (c : Dev nD) (p : Fin 16) : sProp 𝕄 := iprop(cred (tallyAt (cell c (.dma (psS p))) () NP) ∗ atPos ER (cell c (.dma (psS p))) 0 ∅ 0)
def sentOut (c : Dev nD) (p : Fin 16) : sProp 𝕄 := iprop(outAny c p ∗ atPos ER (cell c (.dma (psS p))) 1 ∅ 0)

theorem wp_sent {Q : PUnit → sProp 𝕄} (p : Fin 16) (r : PK F) :
    iprop(sentS I κ c ∗ sentIn c p ∗ ((sentS I κ c ∗ sentOut c p) -∗ WP c r Q)) ⊢ WP c (sent p r) Q := by
  unfold sentS sentIn sentOut
  iintro ⟨⟨#Hx, HO⟩, ⟨Hc, Ha⟩, Hk⟩
  unfold sent
  iapply (wp_collect I κ (wpE_waitDma2_eq 𝒱₀ (c : Thread nD τ) none Set.univ) (inv_own I κ c (.inr (.inl (.inl p))))
    ((expect_one I c _ (duty_ps p)).trans (by rw [role_ps]; rfl))
    (mayWait c (.dma (psS p)) (n := 3) (by rw [role_ps]; exact Nat.zero_le 3) (above_exit c))
    ((rest_one I c _ (duty_ps p)).trans (by rw [role_ps]; rfl : hands I c false (role (.dma (psS p))) = outAny c p)))
  isplitr; · iexact Hx
  isplitl [Hc]; · iexact Hc
  isplitl [HO]; · iexact HO
  isplitl [Ha]; · iexact Ha
  iintro ⟨HO, Ha, Hp⟩
  iapply Hk
  isplitl [HO]
  · isplitr; · iexact Hx
    iexact HO
  isplitl [Hp]; · iexact Hp
  iexact Ha

/-! ## The warm-up rows sent and taken -/

theorem wp_sentHalo (hf : fst c = true) {r : PK F} {Q : PUnit → sProp 𝕄} :
    iprop(ctx I κ ∗ owing c (owePieces c 0)
        ∗ (cred (tallyAt (cell c (.dma (hsS 0))) () NX) ∗ atPos ER (cell c (.dma (hsS 0))) 0 ∅ 0)
        ∗ (cred (tallyAt (cell c (.dma (hsS 1))) () NB) ∗ atPos ER (cell c (.dma (hsS 1))) 0 ∅ 0)
        ∗ (cred (tallyAt (cell c (.reg ackS)) () 1) ∗ atPos ER (cell c (.reg ackS)) 0 ∅ 0)
        ∗ ((owing c (owePieces c 0) ∗ (lentX I c ∗ atPos ER (cell c (.dma (hsS 0))) 1 ∅ 0) ∗ (lentB I c ∗ atPos ER (cell c (.dma (hsS 1))) 1 ∅ 0)
            ∗ atPos ER (cell c (.reg ackS)) 1 ∅ 0) -∗ WP c r Q))
      ⊢ WP c (sentHalo r) Q := by
  iintro ⟨#Hx, HO, ⟨Hc0, Ha0⟩, ⟨Hc1, Ha1⟩, ⟨Hc2, Ha2⟩, Hk⟩
  unfold sentHalo
  iapply (wp_collect I κ (wpE_waitDma2_eq 𝒱₀ (c : Thread nD τ) none Set.univ) (inv_own I κ c (.inl (.inl 0)))
    ((expect_one I c _ (duty_true hf 0)).trans (by rw [role_hs, units_hs0]; rfl))
    (mayWait c (.dma (hsS 0)) (n := 3) (by rw [role_hs]; exact Nat.zero_le 3) (above_exit c))
    ((rest_one I c _ (duty_true hf 0)).trans (by rw [role_hs, hands_hs0])))
  isplitr; · iexact Hx
  isplitl [Hc0]; · iexact Hc0
  isplitl [HO]; · iexact HO
  isplitl [Ha0]; · iexact Ha0
  iintro ⟨HO, Ha0, Hp0⟩
  iapply (wp_collect I κ (wpE_waitDma2_eq 𝒱₀ (c : Thread nD τ) none Set.univ) (inv_own I κ c (.inl (.inl 1)))
    ((expect_one I c _ (duty_true hf 1)).trans (by rw [role_hs, units_hs1]; rfl))
    (mayWait c (.dma (hsS 1)) (n := 3) (by rw [role_hs]; exact Nat.zero_le 3) (above_exit c))
    ((rest_one I c _ (duty_true hf 1)).trans (by rw [role_hs, hands_hs1])))
  isplitr; · iexact Hx
  isplitl [Hc1]; · iexact Hc1
  isplitl [HO]; · iexact HO
  isplitl [Ha1]; · iexact Ha1
  iintro ⟨HO, Ha1, Hp1⟩
  iapply (wp_collect I κ (wpE_semWait_eq 𝒱₀ (c : Thread nD τ) none Set.univ) (inv_own I κ c (.inr (.inr (.inl ()))))
    ((expect_one I c _ (duty_ack hf)).trans (by rw [role_ack]; rfl))
    (mayWait c (.reg ackS) (n := 3) (by rw [role_ack]; exact Nat.le_refl 3) (above_exit c))
    (rest_one I c _ (duty_ack hf)))
  isplitr; · iexact Hx
  isplitl [Hc2]; · iexact Hc2
  isplitl [HO]; · iexact HO
  isplitl [Ha2]; · iexact Ha2
  iintro ⟨HO, Ha2, -⟩
  iapply Hk
  isplitl [HO]; · iexact HO
  isplitl [Hp0 Ha0]
  · isplitl [Hp0]; · iexact Hp0
    iexact Ha0
  isplitl [Hp1 Ha1]
  · isplitl [Hp1]; · iexact Hp1
    iexact Ha1
  iexact Ha2

/-! ## The exit handshake -/

theorem wp_exit {r : PK F} {Q : PUnit → sProp 𝕄} :
    iprop(ctx I κ ∗ owing c (owePieces c 0) ∗ (dutyTok ER (cell (yn c) (.reg exitS)) 0 false ∗ reached ER (cell (yn c) (.reg exitS)) 0)
        ∗ (cred (tallyAt (cell c (.reg exitS)) () 1) ∗ atPos ER (cell c (.reg exitS)) 0 ∅ 0)
        ∗ ((owing c 0 ∗ atPos ER (cell c (.reg exitS)) 1 ∅ 0) -∗ WP c r Q))
      ⊢ WP c (exit c r) Q := by
  have e : owePieces c 0 = 0 + tallyAt (cell (yn c) (.reg exitS)) () 1 := by rw [zero_add, owePieces]
  rw [e]
  iintro ⟨#Hx, HO, ⟨Ht, Hr⟩, ⟨Hc, Ha⟩, Hk⟩
  unfold exit
  iapply (wp_raise1 I κ (c := c) (d := yn c) (s := exitS) (b := false) rfl (by rw [duty_exit]; exact Finset.mem_singleton_self _)
    (inv_own I κ (yn c) (.inr (.inr (.inr ())))) (O := 0))
  isplitr; · iexact Hx
  isplitl [HO]; · iexact HO
  isplitl [Ht]; · iexact Ht
  isplitr; · rw [role_exit]; unfold hands; iempintro
  isplitl [Hr]; · iexact Hr
  iintro HO
  iapply (wp_collect I κ (wpE_semWait_eq 𝒱₀ (c : Thread nD τ) none Set.univ) (inv_own I κ c (.inr (.inr (.inr ()))))
    ((expect_one I c _ duty_exit).trans (by rw [role_exit]; rfl))
    (mayWait c (.reg exitS) (n := 4) (by rw [role_exit]; exact Nat.le_refl 4) (O := 0) (fun _ _ h => absurd h (Nat.lt_irrefl 0)))
    (rest_one I c _ duty_exit))
  isplitr; · iexact Hx
  isplitl [Hc]; · iexact Hc
  isplitl [HO]; · iexact HO
  isplitl [Ha]; · iexact Ha
  iintro ⟨HO, Ha, -⟩
  iapply Hk
  isplitl [HO]; · iexact HO
  iexact Ha

end Cert.KernelIdeal.Scan
-- ==== Proof.Ideal.Whole.lean ====
/-
The body on one device from its first step to its last.

`bodyPre` is what a device starts with: what it owes, its tokens, its credit, its place on every cell, its staged operands
and its buffers. `bodyPost` is what it ends with: nothing owed, every counter at zero, the operands unchanged, the result.
-/
module

public import proofs.«01_k».proof.Proof.Ideal.Pieces
public import Idealize.ShloMosaic.Lib.Ring

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] (I : Ins F) (κ : GSem nD τ sig → ℕ) {c : Dev nD}

local notation "𝕄" => MT nD τ sig Unit (Elt F) ℕ UU ℕ

theorem mono16 {Φ Ψ : Fin 16 → sProp 𝕄} (h : ∀ p, Φ p ⊢ Ψ p) : bigSep Finset.univ Φ ⊢ bigSep Finset.univ Ψ := bigSep_mono fun p _ => h p
theorem zip16 (Φ Ψ : Fin 16 → sProp 𝕄) : iprop(bigSep Finset.univ Φ ∗ bigSep Finset.univ Ψ) ⊢ bigSep Finset.univ fun p => iprop(Φ p ∗ Ψ p) :=
  Entails.of_eq (bigSep_sep' _ _ _).symm
theorem unzip16 (Φ Ψ : Fin 16 → sProp 𝕄) : (bigSep Finset.univ fun p => iprop(Φ p ∗ Ψ p)) ⊢ iprop(bigSep Finset.univ Φ ∗ bigSep Finset.univ Ψ) :=
  Entails.of_eq (bigSep_sep' _ _ _)

/-! ## The result -/

/-- Two results whose pieces agree are one. -/
theorem ext_pieces {f g : YBuf F} (c : ℕ) (h0 : ∀ p, yat f c p = yat g c p) (h1 : ∀ p, yat f (c + 1) p = yat g (c + 1) p) : f = g := by
  funext i
  have hi : (i 1).val < 1024 := (i 1).isLt
  have key : ∀ (h : ℕ) (p : Fin 16), yat f h p = yat g h p → row h p ≤ (i 1).val → (i 1).val < row h p + 32 → f i = g i := by
    intro h p e hl hu
    have hm : i ∈ (rX h p).set := Rect.mem_set_unit.mpr fun a => by
      fin_cases a
      · exact ⟨Nat.zero_le _, (Nat.zero_add 4).symm ▸ (i 0).isLt⟩
      · exact ⟨hl, hu⟩
      · exact ⟨Nat.zero_le _, (Nat.zero_add 1024).symm ▸ (i 2).isLt⟩
    rw [← Rect.map_emb_univ] at hm
    obtain ⟨j, -, rfl⟩ := Finset.mem_map.mp hm
    exact congrFun e j
  obtain ⟨h, hh, hr⟩ : ∃ h, (h = c ∨ h = c + 1) ∧ h % 2 = (i 1).val / 512 := by
    by_cases hc : c % 2 = (i 1).val / 512
    · exact ⟨c, .inl rfl, hc⟩
    · exact ⟨c + 1, .inr rfl, by omega⟩
  have hp : (i 1).val % 512 / 32 < 16 := by omega
  have e : yat f h ⟨_, hp⟩ = yat g h ⟨_, hp⟩ := by
    rcases hh with rfl | rfl
    · exact h0 _
    · exact h1 _
  exact key h ⟨_, hp⟩ e (by unfold row; rw [hr]; dsimp only; omega) (by unfold row; rw [hr]; dsimp only; omega)

theorem exists_out (c : Dev nD) : ∃ f : YBuf F, Mine I c 16 f ∧ Theirs I c 16 f := by
  have h1 : ∀ k, k ≤ 16 → ∃ f : YBuf F, Mine I c k f := by
    intro k
    induction k with
    | zero => intro _; exact ⟨broadcast S4x1024x1024 (Scalar.ofBits (F := F) .f32 0x00000000#32), fun q hq => absurd hq (Nat.not_lt_zero _)⟩
    | succ k ih => intro hk; obtain ⟨f, hf⟩ := ih (by omega); exact ⟨_, Mine.put I (k := ⟨k, by omega⟩) hf⟩
  have h2 : ∀ k, k ≤ 16 → ∃ f : YBuf F, Mine I c 16 f ∧ Theirs I c k f := by
    intro k
    induction k with
    | zero => intro _; obtain ⟨f, hf⟩ := h1 16 (Nat.le_refl _); exact ⟨f, hf, fun q hq => absurd hq (Nat.not_lt_zero _)⟩
    | succ k ih =>
      intro hk; obtain ⟨f, hf, hg⟩ := ih (by omega)
      exact ⟨_, Mine.keep I hf _, Theirs.put I (k := ⟨k, by omega⟩) hg⟩
  exact h2 16 (Nat.le_refl _)

/-- Device `c`'s result: its own half's pieces, and its neighbour's. -/
def out (c : Dev nD) : YBuf F := Classical.choose (exists_out I c)
theorem out_mine (c : Dev nD) : Mine I c 16 (out I c) := (Classical.choose_spec (exists_out I c)).1
theorem out_theirs (c : Dev nD) : Theirs I c 16 (out I c) := (Classical.choose_spec (exists_out I c)).2
theorem eq_out {f : YBuf F} (h : Mine I c 16 f ∧ Theirs I c 16 f) : f = out I c :=
  ext_pieces c.val (fun p => (h.1 p p.isLt).trans (out_mine I c p p.isLt).symm) (fun p => (h.2 p p.isLt).trans (out_theirs I c p p.isLt).symm)

/-! ## The exchange buffers by their pieces -/

theorem rP_disjoint (p q : Fin 16) (h : p ≠ q) : Disjoint (rP p).set (rP q).set :=
  lead_disjoint (s := S4x512x1024) 1 32 (fun p : Fin 16 => ![0, 32 * p.val, 0]) S4x32x1024.size rP_inb (fun _ => rfl) rfl p q h
theorem rP_cover : Finset.univ.biUnion (fun p : Fin 16 => (rP p).set) = Finset.univ :=
  lead_cover (s := S4x512x1024) 1 32 (fun p : Fin 16 => ![0, 32 * p.val, 0]) S4x32x1024.size rP_inb (fun _ => rfl)
    (fun b a ha => by fin_cases a <;> first | rfl | exact absurd rfl ha) rfl (fun a ha => by fin_cases a <;> first | rfl | exact absurd rfl ha) rfl

theorem set_SO (p : Fin 16) : (sSO p).view.set = (rP p).set := View.set_slice_whole _ _
theorem set_SI (p : Fin 16) : (sSI p).view.set = (rP p).set := View.set_slice_whole _ _

theorem out_split (c : Dev nD) : bufAny c cc0_scratch3 ⊢ (bigSep Finset.univ fun p => outAny c p : sProp 𝕄) := by
  iintro ⟨%f, H⟩
  ihave H := (Entails.of_eq (pointsTo_blocks (ℓ := (Memref.whole cc0_scratch3).view.loc (c : Thread nD τ)) (fun p : Fin 16 => (sSO p).view.set)
    (fun p q h => by rw [set_SO, set_SO]; exact rP_disjoint p q h) ((Finset.biUnion_congr rfl fun p _ => set_SO p).trans rP_cover) f)) $$ H
  iapply (mono16 (Φ := fun p => outPc c p f) (Ψ := fun p => outAny c p) (fun p => by iintro H; iexists f; iexact H)); iexact H
theorem in_split (c : Dev nD) : bufAny c cc0_scratch4 ⊢ (bigSep Finset.univ fun p => inAny c p : sProp 𝕄) := by
  iintro ⟨%f, H⟩
  ihave H := (Entails.of_eq (pointsTo_blocks (ℓ := (Memref.whole cc0_scratch4).view.loc (c : Thread nD τ)) (fun p : Fin 16 => (sSI p).view.set)
    (fun p q h => by rw [set_SI, set_SI]; exact rP_disjoint p q h) ((Finset.biUnion_congr rfl fun p _ => set_SI p).trans rP_cover) f)) $$ H
  iapply (mono16 (Φ := fun p => inPc c p f) (Ψ := fun p => inAny c p) (fun p => by iintro H; iexists f; iexact H)); iexact H
theorem out_join (c : Dev nD) : (bigSep Finset.univ fun p => outAny c p : sProp 𝕄) ⊢ bufAny c cc0_scratch3 :=
  pointsTo_blocks_join_exists (ℓ := (Memref.whole cc0_scratch3).view.loc (c : Thread nD τ)) (fun p : Fin 16 => (sSO p).view.set)
    (fun p q h => by rw [set_SO, set_SO]; exact rP_disjoint p q h) ((Finset.biUnion_congr rfl fun p _ => set_SO p).trans rP_cover)
    (broadcast S4x512x1024 (Scalar.ofBits (F := F) .bf16 0x0000#16))
theorem in_join (c : Dev nD) : (bigSep Finset.univ fun p => inAny c p : sProp 𝕄) ⊢ bufAny c cc0_scratch4 :=
  pointsTo_blocks_join_exists (ℓ := (Memref.whole cc0_scratch4).view.loc (c : Thread nD τ)) (fun p : Fin 16 => (sSI p).view.set)
    (fun p q h => by rw [set_SI, set_SI]; exact rP_disjoint p q h) ((Finset.biUnion_congr rfl fun p _ => set_SI p).trans rP_cover)
    (broadcast S4x512x1024 (Scalar.ofBits (F := F) .bf16 0x0000#16))

/-! ## The staged operands: a half share to read, the rows to lend, the rest -/

abbrev restX (c : Dev nD) : sProp 𝕄 :=
  (Memref.whole cc0_stg0_0).view.loc (c : Thread nD τ) ↦[Finset.univ \ sXe.view.set]{fullShare.left} I.x c
abbrev restB (c : Dev nD) : sProp 𝕄 :=
  (Memref.whole cc0_stg2_0).view.loc (c : Thread nD τ) ↦[Finset.univ \ sBe.view.set]{fullShare.left} I.b c

theorem lendX : (bufAt c cc0_stg0_0 fullShare (I.x c) : sProp 𝕄) ⊣⊢ iprop((lentX I c ∗ restX I c) ∗ readX (c := c) I) :=
  (pointsTo_share (PosShare.mem_left_op_right fullShare)).trans
    ⟨sep_mono_left (pointsTo_split_subset (Finset.subset_univ _)).1, sep_mono_left (pointsTo_split_subset (Finset.subset_univ _)).2⟩
theorem lendB : (bufAt c cc0_stg2_0 fullShare (I.b c) : sProp 𝕄) ⊣⊢ iprop((lentB I c ∗ restB I c) ∗ readB (c := c) I) :=
  (pointsTo_share (PosShare.mem_left_op_right fullShare)).trans
    ⟨sep_mono_left (pointsTo_split_subset (Finset.subset_univ _)).1, sep_mono_left (pointsTo_split_subset (Finset.subset_univ _)).2⟩

/-! ## From the start to the first piece -/

theorem wp_ready {r : PK F} {Q : PUnit → sProp 𝕄} :
    iprop(readX (c := c) I ∗ readB (c := c) I
        ∗ (∃ fx fb, ⌜fst c = false → fx = haloX I (xn c) ∧ fb = haloB I (xn c)⌝ ∗ bufAt c cc0_scratch0 fullShare fx ∗ bufAt c cc0_scratch1 fullShare fb)
        ∗ bufAt c cc0_scratch2 fullShare hzero
        ∗ ((readX (c := c) I ∗ readB (c := c) I ∗ bufAny c cc0_scratch0 ∗ bufAny c cc0_scratch1 ∗ bufAt c cc0_scratch2 fullShare (state I c 0)) -∗ WP c r Q))
      ⊢ WP c (onlyIf (snd c) ownHalo <| onlyIf (or (not (fst c)) (snd c)) (warm (dec I c)) r) Q := by
  iintro ⟨Hx, Hb, ⟨%fx, %fb, %hh, H0, H1⟩, H, Hk⟩
  unfold onlyIf
  rcases hs : snd c
  · rcases hf : fst c
    · -- second row, first column: the rows it was sent
      obtain ⟨rfl, rfl⟩ := hh hf
      dsimp only [cond, Bool.or, Bool.not]
      iapply (wp_warm I)
      have e0 : haloX I (xn c) = warmX I c := by unfold warmX; rw [hs]; rfl
      have e1 : haloB I (xn c) = warmB I c := by unfold warmB; rw [hs]; rfl
      rw [e0, e1]
      isplitl [H0]; · iexact H0
      isplitl [H1]; · iexact H1
      isplitl [H]; · iexact H
      iintro ⟨H0, H1, H⟩
      iapply Hk
      isplitl [Hx]; · iexact Hx
      isplitl [Hb]; · iexact Hb
      isplitl [H0]; · iexists _; iexact H0
      isplitl [H1]; · iexists _; iexact H1
      rw [state, state0, hf]; iexact H
    · -- first row, first column: nothing to warm up on
      dsimp only [cond, Bool.or, Bool.not]
      iapply Hk
      isplitl [Hx]; · iexact Hx
      isplitl [Hb]; · iexact Hb
      isplitl [H0]; · iexists _; iexact H0
      isplitl [H1]; · iexists _; iexact H1
      rw [state, state0, hf, hs]; iexact H
  · -- second column: the rows before the own half
    have ew : (!fst c || true) = true := by cases fst c <;> rfl
    rw [show Bool.or (Bool.not (fst c)) true = true from by cases fst c <;> rfl]
    dsimp only [cond]
    iapply (wp_ownHalo I)
    isplitl [Hx]; · iexact Hx
    isplitl [Hb]; · iexact Hb
    isplitl [H0]; · iexists _; iexact H0
    isplitl [H1]; · iexists _; iexact H1
    have e0 : wxcopy (mX.view.readAt (Elt F) rXw.toLoadRect (I.x c)) = warmX I c := by unfold warmX; rw [hs]; rfl
    have e1 : wbcopy (mB.view.readAt (Elt F) rBw.toLoadRect (I.b c)) = warmB I c := by unfold warmB; rw [hs]; rfl
    rw [e0, e1]
    iintro ⟨Hx, Hb, H0, H1⟩
    iapply (wp_warm I)
    isplitl [H0]; · iexact H0
    isplitl [H1]; · iexact H1
    isplitl [H]; · iexact H
    iintro ⟨H0, H1, H⟩
    iapply Hk
    isplitl [Hx]; · iexact Hx
    isplitl [Hb]; · iexact Hb
    isplitl [H0]; · iexists _; iexact H0
    isplitl [H1]; · iexists _; iexact H1
    rw [state, state0, hs, ew]; iexact H

/-! ## The pieces and the exchange -/

theorem wp_scan {r : PK F} {Q : PUnit → sProp 𝕄} :
    iprop(ctx I κ ∗ readX (c := c) I ∗ readB (c := c) I ∗ bufAt c cc0_stg3_0 fullShare (I.l c) ∗ bufAt c cc0_scratch2 fullShare (state I c 0)
        ∗ bufAny c cc0_stg4_0 ∗ owing c (owePieces c 16)
        ∗ bigSep Finset.univ (scanIn c) ∗ bigSep Finset.univ (takeIn c) ∗ bigSep Finset.univ (fun p : Fin 16 => atPos ER (cell c (.dma (psS p))) 0 ∅ 0)
        ∗ ((readX (c := c) I ∗ readB (c := c) I ∗ bufAt c cc0_stg3_0 fullShare (I.l c) ∗ bufAny c cc0_scratch2
            ∗ bufAt c cc0_stg4_0 fullShare (out I c) ∗ owing c (owePieces c 0)
            ∗ bigSep Finset.univ (takeOut c) ∗ bigSep Finset.univ (sentOut c)) -∗ WP c r Q))
      ⊢ WP c (seqK (piece c (dec I c)) 16 0 <| seqK (take c) 16 0 <| seqK sent 16 0 r) Q := by
  iintro ⟨#Hi, Hx, Hb, HL, H, ⟨%f, HY⟩, HO, Hs, Ht, Ha, Hk⟩
  iapply (wp_seqK (c := c) (scanS I κ c) (scanIn c) (scanOut c) (wp_piece I κ))
  isplitl [Hx Hb HL H HY HO]
  · unfold scanS
    isplitr; · iexact Hi
    isplitl [Hx]; · iexact Hx
    isplitl [Hb]; · iexact Hb
    isplitl [HL]; · iexact HL
    isplitl [H]; · iexact H
    isplitl [HY]
    · iexists f; isplitr
      · ipureintro; exact fun q hq => absurd hq (Nat.not_lt_zero _)
      iexact HY
    iexact HO
  isplitl [Hs]; · iexact Hs
  unfold scanS
  iintro ⟨⟨-, Hx, Hb, HL, H, ⟨%f, %hf, HY⟩, HO⟩, Hs⟩
  iapply (wp_seqK (c := c) (takeS I κ c) (takeIn c) (takeOut c) (wp_take I κ))
  isplitl [HY HO]
  · unfold takeS
    isplitr; · iexact Hi
    isplitl [HY]
    · iexists f; isplitr
      · ipureintro; exact ⟨hf, fun q hq => absurd hq (Nat.not_lt_zero _)⟩
      iexact HY
    iexact HO
  isplitl [Ht]; · iexact Ht
  unfold takeS
  iintro ⟨⟨-, ⟨%f, %hf, HY⟩, HO⟩, Ht⟩
  iapply (wp_seqK (c := c) (fun _ => sentS I κ c) (sentIn c) (sentOut c) (wp_sent I κ))
  isplitl [HO]
  · unfold sentS
    isplitr; · iexact Hi
    iexact HO
  isplitl [Hs Ha]
  · iapply (zip16 (scanOut c) (fun p : Fin 16 => atPos ER (cell c (.dma (psS p))) 0 ∅ 0))
    isplitl [Hs]; · iexact Hs
    iexact Ha
  unfold sentS
  iintro ⟨⟨-, HO⟩, Hs⟩
  iapply Hk
  isplitl [Hx]; · iexact Hx
  isplitl [Hb]; · iexact Hb
  isplitl [HL]; · iexact HL
  isplitl [H]; · iexists _; iexact H
  isplitl [HY]; · rw [eq_out I hf]; iexact HY
  isplitl [HO]; · iexact HO
  isplitl [Ht]; · iexact Ht
  iexact Hs

/-! ## The counters given back -/

/-- A cell at its end: what is left of its rounds holds no duty. -/
def ended (g : GSem nD τ sig) : sProp 𝕄 := iprop(∃ R, ⌜∀ r, R ≤ r → (rd I).duties g r = ∅⌝ ∗ atPos ER g R ∅ 0)

theorem ended_one (g : GSem nD τ sig) : atPos ER g 1 ∅ 0 ⊢ ended I g := by
  unfold ended; iintro H; iexists 1; isplitr
  · ipureintro; exact fun r hr => duties_later I g r hr
  iexact H
theorem ended_zero (s : SemLoc sig) (h : duty c (role s) = ∅) : atPos ER (cell c s) 0 ∅ 0 ⊢ ended I (cell c s) := by
  unfold ended; iintro H; iexists 0; isplitr
  · ipureintro
    intro r _
    rcases Nat.eq_zero_or_pos r with rfl | hr
    · rw [duties_zero, h]
    · exact duties_later I _ r hr
  iexact H

theorem close_own : iprop(ctx I κ ∗ bigSep Finset.univ fun k : Own => ended I (cell c (osem k)))
    ⊢ (|={Set.univ}=> bigSep Finset.univ fun k : Own => semVal (cell c (osem k)) 0 : sProp 𝕄) := by
  refine BIBase.Entails.trans (bigSep_with_persistent (S := Finset.univ) (R := ctx I κ) (Φ := fun k : Own => ended I (cell c (osem k)))
    (Ψ := fun k : Own => iprop(|={Set.univ}=> semVal (cell c (osem k)) 0)) ?_) (bigSep_fupd Finset.univ _)
  intro k _
  unfold ctx ended
  iintro ⟨⟨#Hi, -⟩, %R, %h, H⟩
  iapply (close I (κ (cell c (osem k))) (cell c (osem k)) R h)
  isplitr; · iapply (inv_own I κ c k); iexact Hi
  iexact H

theorem close_bar : iprop(ctx I κ ∗ atPos ER (cell c (.reg barS)) 1 ∅ 0) ⊢ (|={Set.univ}=> semVal (cell c (.reg barS)) 0 : sProp 𝕄) := by
  unfold ctx
  iintro ⟨⟨#Hi, -⟩, H⟩
  iapply (close I (κ (cell c (.reg barS))) (cell c (.reg barS)) 1 (fun r hr => duties_later I _ r hr))
  isplitr; · iapply (inv_bar I κ c); iexact Hi
  iexact H

/-! ## The body -/

/-- A resource for each of the kernel's own semaphores, sorted. -/
theorem own_eq (Φ : Own → sProp 𝕄) : bigSep Finset.univ Φ
    = iprop(((Φ (.inl (.inl 0)) ∗ Φ (.inl (.inl 1))) ∗ (Φ (.inl (.inr 0)) ∗ Φ (.inl (.inr 1))))
      ∗ ((bigSep Finset.univ (fun p => Φ (.inr (.inl (.inl p)))) ∗ bigSep Finset.univ (fun p => Φ (.inr (.inl (.inr p)))))
        ∗ (Φ (.inr (.inr (.inl ()))) ∗ Φ (.inr (.inr (.inr ())))))) := by
  rw [bigSep_univ_sum, bigSep_univ_sum, bigSep_univ_sum, bigSep_univ_sum, bigSep_univ_sum, bigSep_fin_two, bigSep_fin_two]
  have hu : ∀ Ψ : Unit → sProp 𝕄, bigSep Finset.univ Ψ = Ψ () := fun Ψ => bigSep_singleton
  rw [hu, hu]
  rfl

/-- The duty tokens a device may pay with. -/
def toks (c : Dev nD) : sProp 𝕄 :=
  iprop((dutyTok ER (cell (xn c) (.reg barS)) 0 false ∗ dutyTok ER (cell (yn c) (.reg barS)) 0 true)
    ∗ ((dutyTok ER (cell c (.dma (hsS 0))) 0 false ∗ dutyTok ER (cell c (.dma (hsS 1))) 0 false)
      ∗ (dutyTok ER (cell (xn c) (.dma (hrS 0))) 0 false ∗ dutyTok ER (cell (xn c) (.dma (hrS 1))) 0 false))
    ∗ ((bigSep Finset.univ (fun p : Fin 16 => dutyTok ER (cell c (.dma (psS p))) 0 false)
        ∗ bigSep Finset.univ (fun p : Fin 16 => dutyTok ER (cell (yn c) (.dma (prS p))) 0 false))
      ∗ (dutyTok ER (cell (xn c) (.reg ackS)) 0 false ∗ dutyTok ER (cell (yn c) (.reg exitS)) 0 false)))

/-- The credit it waits with. -/
def creds (c : Dev nD) : sProp 𝕄 :=
  iprop(cred (tallyAt (cell c (.reg barS)) () 2) ∗ bigSep Finset.univ (fun p : Fin 16 => cred (tallyAt (cell c (.dma (prS p))) () NP))
    ∗ cred (tallyAt (cell c (.reg exitS)) () 1)
    ∗ bif fst c then cred (tallyAt (cell c (.reg ackS)) () 1)
      else iprop(cred (tallyAt (cell c (.dma (hrS 0))) () NX) ∗ cred (tallyAt (cell c (.dma (hrS 1))) () NB)))

/-- The scratch buffers. -/
def scratch (c : Dev nD) : sProp 𝕄 :=
  iprop(bufAny c cc0_scratch0 ∗ bufAny c cc0_scratch1 ∗ bufAny c cc0_scratch2 ∗ bufAny c cc0_scratch3 ∗ bufAny c cc0_scratch4)
/-- The staged operands. -/
def operands (c : Dev nD) : sProp 𝕄 :=
  iprop(bufAt c cc0_stg0_0 fullShare (I.x c) ∗ bufAt c cc0_stg1_0 fullShare (I.a c) ∗ bufAt c cc0_stg2_0 fullShare (I.b c)
    ∗ bufAt c cc0_stg3_0 fullShare (I.l c))

def bodyPre (c : Dev nD) : sProp 𝕄 :=
  iprop(ctx I κ ∗ owing c (O₀ c) ∗ toks c ∗ creds c
    ∗ (reached ER (cell (xn c) (.reg barS)) 0 ∗ reached ER (cell (yn c) (.reg barS)) 0)
    ∗ atPos ER (cell c (.reg barS)) 0 ∅ 0
    ∗ bigSep Finset.univ (fun k : Own => atPos ER (cell c (osem k)) 0 ∅ 0) ∗ bigSep Finset.univ (fun k : Own => reached ER (cell c (osem k)) 0)
    ∗ operands I c ∗ bufAny c cc0_stg4_0 ∗ scratch c)
def bodyPost (c : Dev nD) : sProp 𝕄 :=
  iprop(owing c 0 ∗ semVal (cell c (.reg barS)) 0 ∗ bigSep Finset.univ (fun k : Own => semVal (cell c (osem k)) 0)
    ∗ operands I c ∗ bufAt c cc0_stg4_0 fullShare (out I c) ∗ scratch c)

theorem wp_done {Q : PUnit → sProp 𝕄} : iprop(|={Set.univ}=> Q ⟨⟩) ⊢ WP (F := F) c (.ret ⟨⟩) Q := by unfold WP; rw [wp_ret]

/-- What a device has left for the last part, by its row. -/
theorem wp_end {Q : PUnit → sProp 𝕄} :
    iprop(ctx I κ ∗ owing c (owePieces c 0) ∗ (dutyTok ER (cell (yn c) (.reg exitS)) 0 false ∗ reached ER (cell (yn c) (.reg exitS)) 0)
        ∗ cred (tallyAt (cell c (.reg exitS)) () 1)
        ∗ atPos ER (cell c (.reg barS)) 1 ∅ 0 ∗ atPos ER (cell c (.reg exitS)) 0 ∅ 0
        ∗ ((ended I (cell c (.dma (hsS 0))) ∗ ended I (cell c (.dma (hsS 1)))) ∗ (ended I (cell c (.dma (hrS 0))) ∗ ended I (cell c (.dma (hrS 1)))))
        ∗ bigSep Finset.univ (takeOut c) ∗ bigSep Finset.univ (sentOut c) ∗ ended I (cell c (.reg ackS))
        ∗ ((owing c 0 ∗ semVal (cell c (.reg barS)) 0 ∗ bigSep Finset.univ (fun k : Own => semVal (cell c (osem k)) 0)
            ∗ bufAny c cc0_scratch3 ∗ bufAny c cc0_scratch4) -∗ Q ⟨⟩))
      ⊢ WP c (exit c (.ret ⟨⟩)) Q := by
  iintro ⟨#Hi, HO, Hx, Hc, Hb, Ha, Hh, Ht, Hs, Hk, HQ⟩
  iapply (wp_exit I κ)
  isplitr; · iexact Hi
  isplitl [HO]; · iexact HO
  isplitl [Hx]; · iexact Hx
  isplitl [Hc Ha]
  · isplitl [Hc]; · iexact Hc
    iexact Ha
  iintro ⟨HO, Ha⟩
  unfold takeOut sentOut
  ihave Ht := (unzip16 (fun p : Fin 16 => (inAny c p : sProp 𝕄)) (fun p => atPos ER (cell c (.dma (prS p))) 1 ∅ 0)) $$ Ht
  ihave Hs := (unzip16 (fun p : Fin 16 => (outAny c p : sProp 𝕄)) (fun p => atPos ER (cell c (.dma (psS p))) 1 ∅ 0)) $$ Hs
  icases Ht with ⟨Hin, Ht⟩
  icases Hs with ⟨Hout, Hs⟩
  iapply wp_done
  imod (close_bar I κ) $$ [Hb] with Hb
  · isplitr; · iexact Hi
    iexact Hb
  imod (close_own I κ (c := c)) $$ [Ha Hh Ht Hs Hk] with Ho
  · isplitr; · iexact Hi
    iapply (Entails.of_eq (own_eq (fun k : Own => ended I (cell c (osem k)))).symm)
    isplitl [Hh]; · iexact Hh
    isplitl [Ht Hs]
    · isplitl [Hs]
      · iapply (mono16 (fun p => ended_one I (cell c (.dma (psS p))))); iexact Hs
      · iapply (mono16 (fun p => ended_one I (cell c (.dma (prS p))))); iexact Ht
    isplitl [Hk]; · iexact Hk
    iapply (ended_one I); iexact Ha
  imodintro
  iapply HQ
  isplitl [HO]; · iexact HO
  isplitl [Hb]; · iexact Hb
  isplitl [Ho]; · iexact Ho
  isplitl [Hout]; · iapply (out_join c); iexact Hout
  iapply (in_join c); iexact Hin

theorem scanIn_intro (c : Dev nD) :
    iprop((bigSep Finset.univ (fun p : Fin 16 => dutyTok ER (cell c (.dma (psS p))) 0 false)
          ∗ bigSep Finset.univ (fun p : Fin 16 => reached ER (cell c (.dma (psS p))) 0))
        ∗ bigSep Finset.univ (fun p : Fin 16 => dutyTok ER (cell (yn c) (.dma (prS p))) 0 false)
        ∗ bigSep Finset.univ (fun p : Fin 16 => iprop(inAny (yn c) p ∗ reached ER (cell (yn c) (.dma (prS p))) 0))
        ∗ bigSep Finset.univ fun p : Fin 16 => outAny c p)
      ⊢ (bigSep Finset.univ (scanIn c) : sProp 𝕄) := by
  have e : scanIn (F := F) c = fun p => iprop((dutyTok ER (cell c (.dma (psS p))) 0 false ∗ reached ER (cell c (.dma (psS p))) 0)
    ∗ dutyTok ER (cell (yn c) (.dma (prS p))) 0 false ∗ (inAny (yn c) p ∗ reached ER (cell (yn c) (.dma (prS p))) 0) ∗ outAny c p) := funext fun _ => rfl
  rw [e]
  simp only [bigSep_sep']
  iintro H; iexact H

/-- From the start to the exit: the warm-up, the pieces, the exchange. -/
theorem wp_middle {r : PK F} {Q : PUnit → sProp 𝕄} :
    iprop(ctx I κ ∗ readX (c := c) I ∗ readB (c := c) I
        ∗ (∃ fx fb, ⌜fst c = false → fx = haloX I (xn c) ∧ fb = haloB I (xn c)⌝ ∗ bufAt c cc0_scratch0 fullShare fx ∗ bufAt c cc0_scratch1 fullShare fb)
        ∗ bufAt c cc0_scratch2 fullShare hzero ∗ bufAt c cc0_stg3_0 fullShare (I.l c) ∗ bufAny c cc0_stg4_0 ∗ owing c (owePieces c 16)
        ∗ bigSep Finset.univ (scanIn c) ∗ bigSep Finset.univ (takeIn c) ∗ bigSep Finset.univ (fun p : Fin 16 => atPos ER (cell c (.dma (psS p))) 0 ∅ 0)
        ∗ ((readX (c := c) I ∗ readB (c := c) I ∗ (bufAny c cc0_scratch0 ∗ bufAny c cc0_scratch1 ∗ bufAny c cc0_scratch2)
            ∗ bufAt c cc0_stg3_0 fullShare (I.l c) ∗ bufAt c cc0_stg4_0 fullShare (out I c) ∗ owing c (owePieces c 0)
            ∗ bigSep Finset.univ (takeOut c) ∗ bigSep Finset.univ (sentOut c)) -∗ WP c r Q))
      ⊢ WP c (onlyIf (snd c) ownHalo <| onlyIf (or (not (fst c)) (snd c)) (warm (dec I c)) <|
          seqK (piece c (dec I c)) 16 0 <| seqK (take c) 16 0 <| seqK sent 16 0 r) Q := by
  iintro ⟨#Hi, Hx, Hb, Hh, HH, HL, HY, HO, Hs, Ht, Ha, Hk⟩
  iapply (wp_ready I)
  isplitl [Hx]; · iexact Hx
  isplitl [Hb]; · iexact Hb
  isplitl [Hh]; · iexact Hh
  isplitl [HH]; · iexact HH
  iintro ⟨Hx, Hb, H0, H1, HH⟩
  iapply (wp_scan I κ)
  isplitr; · iexact Hi
  isplitl [Hx]; · iexact Hx
  isplitl [Hb]; · iexact Hb
  isplitl [HL]; · iexact HL
  isplitl [HH]; · iexact HH
  isplitl [HY]; · iexact HY
  isplitl [HO]; · iexact HO
  isplitl [Hs]; · iexact Hs
  isplitl [Ht]; · iexact Ht
  isplitl [Ha]; · iexact Ha
  iintro ⟨Hx, Hb, HL, HH, HY, HO, Ht, Hs⟩
  iapply Hk
  isplitl [Hx]; · iexact Hx
  isplitl [Hb]; · iexact Hb
  isplitl [H0 H1 HH]
  · isplitl [H0]; · iexact H0
    isplitl [H1]; · iexact H1
    iexact HH
  isplitl [HL]; · iexact HL
  isplitl [HY]; · iexact HY
  isplitl [HO]; · iexact HO
  isplitl [Ht]; · iexact Ht
  iexact Hs

theorem wp_do {q : Bool} (h : q = true) {f : PK F → PK F} {r : PK F} {Q : PUnit → sProp 𝕄} : WP c (f r) Q ⊢ WP c (onlyIf q f r) Q := by
  subst h; exact BI.Entails.refl _
theorem wp_skip {q : Bool} (h : q = false) {f : PK F → PK F} {r : PK F} {Q : PUnit → sProp 𝕄} : WP c r Q ⊢ WP c (onlyIf q f r) Q := by
  subst h; exact BI.Entails.refl _

/-- What a device's row leaves it to take back at the end: in the first row the rows lent, in the second nothing. -/
def pending (c : Dev nD) : sProp 𝕄 :=
  bif fst c then
    iprop((cred (tallyAt (cell c (.dma (hsS 0))) () NX) ∗ cred (tallyAt (cell c (.dma (hsS 1))) () NB) ∗ cred (tallyAt (cell c (.reg ackS)) () 1))
      ∗ atPos ER (cell c (.dma (hsS 0))) 0 ∅ 0 ∗ atPos ER (cell c (.dma (hsS 1))) 0 ∅ 0 ∗ atPos ER (cell c (.reg ackS)) 0 ∅ 0)
  else iprop((lentX I c ∗ lentB I c) ∗ (ended I (cell c (.dma (hsS 0))) ∗ ended I (cell c (.dma (hsS 1)))) ∗ ended I (cell c (.reg ackS)))

/-- From the start to the warm-up. -/
theorem wp_opening {r : FVec F S1x32x1024 .bf16 → PK F} {Q : PUnit → sProp 𝕄} :
    iprop(ctx I κ ∗ owing c (oweMid c) ∗ (giveX (F := F) (xn c) ∗ bif fst c then iprop(bufAny c cc0_scratch0 ∗ bufAny c cc0_scratch1) else iprop(emp))
        ∗ (lentX I c ∗ dutyTok ER (cell c (.dma (hsS 0))) 0 false ∗ reached ER (cell c (.dma (hsS 0))) 0 ∗ dutyTok ER (cell (xn c) (.dma (hrS 0))) 0 false)
        ∗ (lentB I c ∗ dutyTok ER (cell c (.dma (hsS 1))) 0 false ∗ reached ER (cell c (.dma (hsS 1))) 0 ∗ dutyTok ER (cell (xn c) (.dma (hrS 1))) 0 false)
        ∗ dutyTok ER (cell (xn c) (.reg ackS)) 0 false
        ∗ (bif fst c then cred (tallyAt (cell c (.reg ackS)) () 1)
            else iprop(cred (tallyAt (cell c (.dma (hrS 0))) () NX) ∗ cred (tallyAt (cell c (.dma (hrS 1))) () NB)))
        ∗ ((atPos ER (cell c (.dma (hsS 0))) 0 ∅ 0 ∗ atPos ER (cell c (.dma (hsS 1))) 0 ∅ 0)
          ∗ (atPos ER (cell c (.dma (hrS 0))) 0 ∅ 0 ∗ atPos ER (cell c (.dma (hrS 1))) 0 ∅ 0) ∗ atPos ER (cell c (.reg ackS)) 0 ∅ 0)
        ∗ bufAny c cc0_scratch2 ∗ bufAt c cc0_stg1_0 fullShare (I.a c)
        ∗ ((owing c (owePieces c 16)
            ∗ (∃ fx fb, ⌜fst c = false → fx = haloX I (xn c) ∧ fb = haloB I (xn c)⌝ ∗ bufAt c cc0_scratch0 fullShare fx ∗ bufAt c cc0_scratch1 fullShare fb)
            ∗ (bufAt c cc0_scratch2 fullShare hzero ∗ bufAt c cc0_stg1_0 fullShare (I.a c))
            ∗ pending I c ∗ ended I (cell c (.dma (hrS 0))) ∗ ended I (cell c (.dma (hrS 1)))) -∗ WP c (r (dec I c)) Q))
      ⊢ WP c (onlyIf (fst c) (sendHalo c) <| start fun a => onlyIf (not (fst c)) (recvHalo c) <| r a) Q := by
  unfold pending
  rcases Bool.eq_false_or_eq_true (fst c) with hf | hf
  · have e : ∀ P R : sProp 𝕄, (bif fst c then P else R) = P := fun P R => by rw [hf]; rfl
    simp only [e]
    iintro ⟨#Hi, HO, ⟨HgX, ⟨%fx, HX0⟩, %fb, HB0⟩, H0, H1, -, Hc, ⟨⟨Ha0, Ha1⟩, ⟨Hb0, Hb1⟩, Hak⟩, ⟨%fh, HH⟩, HA, Hk⟩
    iapply (wp_do hf)
    iapply (wp_sendHalo I κ hf)
    isplitr; · iexact Hi
    isplitl [HO]; · iexact HO
    isplitl [HgX]; · iexact HgX
    isplitl [H0]; · iexact H0
    isplitl [H1]; · iexact H1
    iintro ⟨HO, Hc0, Hc1⟩
    iapply (wp_start I)
    isplitl [HH]; · iexact HH
    isplitl [HA]; · iexact HA
    iintro ⟨HH, HA⟩
    iapply (wp_skip (by rw [hf]; rfl))
    iapply Hk
    isplitl [HO]; · iexact HO
    isplitl [HX0 HB0]
    · iexists fx, fb
      isplitr
      · ipureintro; exact fun h => absurd (hf.symm.trans h) (by decide)
      isplitl [HX0]; · iexact HX0
      iexact HB0
    isplitl [HH HA]
    · isplitl [HH]; · iexact HH
      iexact HA
    isplitl [Hc0 Hc1 Hc Ha0 Ha1 Hak]
    · isplitl [Hc0 Hc1 Hc]
      · isplitl [Hc0]; · iexact Hc0
        isplitl [Hc1]; · iexact Hc1
        iexact Hc
      isplitl [Ha0]; · iexact Ha0
      isplitl [Ha1]; · iexact Ha1
      iexact Hak
    isplitl [Hb0]; · iapply (ended_zero I (.dma (hrS 0)) (by rw [role_hr, duty, hf]; rfl)); iexact Hb0
    iapply (ended_zero I (.dma (hrS 1)) (by rw [role_hr, duty, hf]; rfl)); iexact Hb1
  · have e : ∀ P R : sProp 𝕄, (bif fst c then P else R) = R := fun P R => by rw [hf]; rfl
    simp only [e]
    iintro ⟨#Hi, HO, ⟨HgX, -⟩, ⟨HxL, -⟩, ⟨HbL, -⟩, Htack, ⟨Hc0, Hc1⟩, ⟨⟨Ha0, Ha1⟩, ⟨Hb0, Hb1⟩, Hak⟩, ⟨%fh, HH⟩, HA, Hk⟩
    iapply (wp_skip hf)
    iapply (wp_start I)
    isplitl [HH]; · iexact HH
    isplitl [HA]; · iexact HA
    iintro ⟨HH, HA⟩
    iapply (wp_do (f := recvHalo c) (by rw [hf]; rfl))
    iapply (wp_recvHalo I κ hf)
    isplitr; · iexact Hi
    isplitl [HO]; · iexact HO
    isplitl [HgX]; · iexact HgX
    isplitl [Htack]; · iexact Htack
    isplitl [Hc0 Hb0]
    · isplitl [Hc0]; · iexact Hc0
      iexact Hb0
    isplitl [Hc1 Hb1]
    · isplitl [Hc1]; · iexact Hc1
      iexact Hb1
    iintro ⟨HO, ⟨HX0, Hb0⟩, HB0, Hb1⟩
    iapply Hk
    isplitl [HO]; · iexact HO
    isplitl [HX0 HB0]
    · iexists haloX I (xn c), haloB I (xn c)
      isplitr
      · ipureintro; exact fun _ => ⟨rfl, rfl⟩
      isplitl [HX0]; · iexact HX0
      iexact HB0
    isplitl [HH HA]
    · isplitl [HH]; · iexact HH
      iexact HA
    isplitl [HxL HbL Ha0 Ha1 Hak]
    · isplitl [HxL HbL]
      · isplitl [HxL]; · iexact HxL
        iexact HbL
      isplitl [Ha0 Ha1]
      · isplitl [Ha0]
        · iapply (ended_zero I (.dma (hsS 0)) (by rw [role_hs, duty, hf]; rfl)); iexact Ha0
        · iapply (ended_zero I (.dma (hsS 1)) (by rw [role_hs, duty, hf]; rfl)); iexact Ha1
      iapply (ended_zero I (.reg ackS) (by rw [role_ack, duty, hf]; rfl)); iexact Hak
    isplitl [Hb0]; · iapply (ended_one I); iexact Hb0
    iapply (ended_one I); iexact Hb1

/-- What was lent comes back. -/
theorem wp_closing {r : PK F} {Q : PUnit → sProp 𝕄} :
    iprop(ctx I κ ∗ owing c (owePieces c 0) ∗ pending I c
        ∗ ((owing c (owePieces c 0) ∗ (lentX I c ∗ lentB I c) ∗ (ended I (cell c (.dma (hsS 0))) ∗ ended I (cell c (.dma (hsS 1)))) ∗ ended I (cell c (.reg ackS))) -∗ WP c r Q))
      ⊢ WP c (onlyIf (fst c) sentHalo r) Q := by
  unfold pending
  rcases Bool.eq_false_or_eq_true (fst c) with hf | hf
  · have e : ∀ P R : sProp 𝕄, (bif fst c then P else R) = P := fun P R => by rw [hf]; rfl
    simp only [e]
    iintro ⟨#Hi, HO, ⟨⟨Hc0, Hc1, Hc⟩, Ha0, Ha1, Hak⟩, Hk⟩
    iapply (wp_do hf)
    iapply (wp_sentHalo I κ hf)
    isplitr; · iexact Hi
    isplitl [HO]; · iexact HO
    isplitl [Hc0 Ha0]
    · isplitl [Hc0]; · iexact Hc0
      iexact Ha0
    isplitl [Hc1 Ha1]
    · isplitl [Hc1]; · iexact Hc1
      iexact Ha1
    isplitl [Hc Hak]
    · isplitl [Hc]; · iexact Hc
      iexact Hak
    iintro ⟨HO, ⟨HxL, Ha0⟩, ⟨HbL, Ha1⟩, Hak⟩
    iapply Hk
    isplitl [HO]; · iexact HO
    isplitl [HxL HbL]
    · isplitl [HxL]; · iexact HxL
      iexact HbL
    isplitl [Ha0 Ha1]
    · isplitl [Ha0]; · iapply (ended_one I); iexact Ha0
      iapply (ended_one I); iexact Ha1
    iapply (ended_one I); iexact Hak
  · have e : ∀ P R : sProp 𝕄, (bif fst c then P else R) = R := fun P R => by rw [hf]; rfl
    simp only [e]
    iintro ⟨#Hi, HO, Hp, Hk⟩
    iapply (wp_skip hf)
    iapply Hk
    isplitl [HO]; · iexact HO
    iexact Hp

/-- What a device hands its neighbour along the first axis, and what it keeps. -/
theorem give_intro (c : Dev nD) :
    iprop(bufAny c cc0_scratch0 ∗ bufAny c cc0_scratch1 ∗ reached ER (cell c (.reg ackS)) 0 ∗ reached ER (cell c (.dma (hrS 0))) 0
        ∗ reached ER (cell c (.dma (hrS 1))) 0)
      ⊢ (giveX (F := F) c ∗ bif fst c then iprop(bufAny c cc0_scratch0 ∗ bufAny c cc0_scratch1) else iprop(emp) : sProp 𝕄) := by
  unfold giveX
  rcases Bool.eq_false_or_eq_true (fst c) with hf | hf
  · have e : ∀ P R : sProp 𝕄, (bif fst c then P else R) = P := fun P R => by rw [hf]; rfl
    simp only [e]
    iintro ⟨H0, H1, Ha, -⟩
    isplitl [Ha]; · iexact Ha
    isplitl [H0]; · iexact H0
    iexact H1
  · have e : ∀ P R : sProp 𝕄, (bif fst c then P else R) = R := fun P R => by rw [hf]; rfl
    simp only [e]
    iintro ⟨H0, H1, -, Hb0, Hb1⟩
    isplitl [H0 H1 Hb0 Hb1]
    rotate_left
    · iempintro
    isplitl [H0 H1]
    · isplitl [H0]; · iexact H0
      iexact H1
    isplitl [Hb0]; · iexact Hb0
    iexact Hb1

/-- The body, from the device's number on. -/
theorem wp_body {Q : PUnit → sProp 𝕄} : iprop(bodyPre I κ c ∗ (bodyPost I c -∗ Q ⟨⟩)) ⊢ WP c (body c) Q := by
  unfold bodyPre bodyPost toks creds scratch operands
  iintro ⟨⟨#Hi, HO, ⟨⟨HtbX, HtbY⟩, ⟨⟨Hths0, Hths1⟩, Hthr0, Hthr1⟩, ⟨Htps, Htpr⟩, Htack, Htexit⟩, ⟨Hcbar, Hcpr, Hcexit, Hcrow⟩, ⟨HrX, HrY⟩, Habar,
    Hat, Hre, ⟨Hx, HA, Hb, HL⟩, HY, HX0, HB0, HH, HSO, HSI⟩, HQ⟩
  ihave Hat := (Entails.of_eq (own_eq (fun k : Own => atPos ER (cell c (osem k)) 0 ∅ 0))) $$ Hat
  ihave Hre := (Entails.of_eq (own_eq (fun k : Own => reached ER (cell c (osem k)) 0))) $$ Hre
  icases Hat with ⟨⟨⟨Hahs0, Hahs1⟩, Hahr0, Hahr1⟩, ⟨Haps, Hapr⟩, Haack, Haexit⟩
  icases Hre with ⟨⟨⟨Hrhs0, Hrhs1⟩, Hrhr0, Hrhr1⟩, ⟨Hrps, Hrpr⟩, Hrack, Hrexit⟩
  ihave Hx := (lendX I).1 $$ Hx
  ihave Hb := (lendB I).1 $$ Hb
  icases Hx with ⟨⟨HxL, HxR⟩, Hx⟩
  icases Hb with ⟨⟨HbL, HbR⟩, Hb⟩
  ihave HSO := (out_split c) $$ HSO
  ihave HSI := (in_split c) $$ HSI
  ihave HSI := (zip16 (fun p : Fin 16 => (inAny c p : sProp 𝕄)) (fun p => reached ER (cell c (.dma (prS p))) 0)) $$ [HSI Hrpr]
  · isplitl [HSI]; · iexact HSI
    iexact Hrpr
  ihave Hg := (give_intro c) $$ [HX0 HB0 Hrack Hrhr0 Hrhr1]
  · isplitl [HX0]; · iexact HX0
    isplitl [HB0]; · iexact HB0
    isplitl [Hrack]; · iexact Hrack
    isplitl [Hrhr0]; · iexact Hrhr0
    iexact Hrhr1
  icases Hg with ⟨Hg, Hkeep⟩
  unfold body
  iapply (wp_entry I κ)
  isplitr; · iexact Hi
  isplitl [HO]; · iexact HO
  isplitl [HtbX HrX Hg]
  · isplitl [HtbX]; · iexact HtbX
    isplitl [HrX]; · iexact HrX
    iexact Hg
  isplitl [HtbY HrY HSI Hrexit]
  · isplitl [HtbY]; · iexact HtbY
    isplitl [HrY]; · iexact HrY
    unfold giveY
    isplitl [HSI]; · iexact HSI
    iexact Hrexit
  isplitl [Hcbar Habar]
  · isplitl [Hcbar]; · iexact Hcbar
    iexact Habar
  iintro ⟨HO, Habar, HgX, HgY⟩
  unfold giveY
  icases HgY with ⟨HSI, HreY⟩
  iapply (wp_opening I κ (r := fun a => onlyIf (snd c) ownHalo <| onlyIf (or (not (fst c)) (snd c)) (warm a) <|
    seqK (piece c a) 16 0 <| seqK (take c) 16 0 <| seqK sent 16 0 <| onlyIf (fst c) sentHalo <| exit c <| .ret ⟨⟩))
  isplitr; · iexact Hi
  isplitl [HO]; · iexact HO
  isplitl [HgX Hkeep]
  · isplitl [HgX]; · iexact HgX
    iexact Hkeep
  isplitl [HxL Hths0 Hrhs0 Hthr0]
  · isplitl [HxL]; · iexact HxL
    isplitl [Hths0]; · iexact Hths0
    isplitl [Hrhs0]; · iexact Hrhs0
    iexact Hthr0
  isplitl [HbL Hths1 Hrhs1 Hthr1]
  · isplitl [HbL]; · iexact HbL
    isplitl [Hths1]; · iexact Hths1
    isplitl [Hrhs1]; · iexact Hrhs1
    iexact Hthr1
  isplitl [Htack]; · iexact Htack
  isplitl [Hcrow]; · iexact Hcrow
  isplitl [Hahs0 Hahs1 Hahr0 Hahr1 Haack]
  · isplitl [Hahs0 Hahs1]
    · isplitl [Hahs0]; · iexact Hahs0
      iexact Hahs1
    isplitl [Hahr0 Hahr1]
    · isplitl [Hahr0]; · iexact Hahr0
      iexact Hahr1
    iexact Haack
  isplitl [HH]; · iexact HH
  isplitl [HA]; · iexact HA
  iintro ⟨HO, Hw, ⟨HH, HA⟩, Hp, Hhr⟩
  iapply (wp_middle I κ)
  isplitr; · iexact Hi
  isplitl [Hx]; · iexact Hx
  isplitl [Hb]; · iexact Hb
  isplitl [Hw]; · iexact Hw
  isplitl [HH]; · iexact HH
  isplitl [HL]; · iexact HL
  isplitl [HY]; · iexact HY
  isplitl [HO]; · iexact HO
  isplitl [Htps Hrps Htpr HSI HSO]
  · iapply (scanIn_intro c)
    isplitl [Htps Hrps]
    · isplitl [Htps]; · iexact Htps
      iexact Hrps
    isplitl [Htpr]; · iexact Htpr
    isplitl [HSI]; · iexact HSI
    iexact HSO
  isplitl [Hcpr Hapr]
  · iapply (zip16 (fun p : Fin 16 => (cred (tallyAt (cell c (.dma (prS p))) () NP) : sProp 𝕄)) (fun p => atPos ER (cell c (.dma (prS p))) 0 ∅ 0))
    isplitl [Hcpr]; · iexact Hcpr
    iexact Hapr
  isplitl [Haps]; · iexact Haps
  iintro ⟨Hx, Hb, HW, HL, HY, HO, Ht, Hs⟩
  iapply (wp_closing I κ)
  isplitr; · iexact Hi
  isplitl [HO]; · iexact HO
  isplitl [Hp]; · iexact Hp
  iintro ⟨HO, ⟨HxL, HbL⟩, Hhs, Hak⟩
  iapply (wp_end I κ)
  isplitr; · iexact Hi
  isplitl [HO]; · iexact HO
  isplitl [Htexit HreY]
  · isplitl [Htexit]; · iexact Htexit
    iexact HreY
  isplitl [Hcexit]; · iexact Hcexit
  isplitl [Habar]; · iexact Habar
  isplitl [Haexit]; · iexact Haexit
  isplitl [Hhs Hhr]
  · isplitl [Hhs]; · iexact Hhs
    iexact Hhr
  isplitl [Ht]; · iexact Ht
  isplitl [Hs]; · iexact Hs
  isplitl [Hak]; · iexact Hak
  iintro ⟨HO, Hsb, Hso, HSO, HSI⟩
  iapply HQ
  isplitl [HO]; · iexact HO
  isplitl [Hsb]; · iexact Hsb
  isplitl [Hso]; · iexact Hso
  isplitl [Hx HxL HxR HA Hb HbL HbR HL]
  · isplitl [Hx HxL HxR]
    · iapply (lendX I).2
      isplitl [HxL HxR]
      · isplitl [HxL]; · iexact HxL
        iexact HxR
      iexact Hx
    isplitl [HA]; · iexact HA
    isplitl [Hb HbL HbR]
    · iapply (lendB I).2
      isplitl [HbL HbR]
      · isplitl [HbL]; · iexact HbL
        iexact HbR
      iexact Hb
    iexact HL
  isplitl [HY]; · iexact HY
  icases HW with ⟨HX0, HB0, HH⟩
  isplitl [HX0]; · iexact HX0
  isplitl [HB0]; · iexact HB0
  isplitl [HH]; · iexact HH
  isplitl [HSO]; · iexact HSO
  iexact HSI

end Cert.KernelIdeal.Scan
-- ==== Proof.Ideal.Ghost.lean ====
/-
What the launch hands each device: the duty tokens, the credit, and the rights to its cells.

All tokens are minted at once. A device keeps those of its own send cells; the others it pays at a neighbour's cell, so
every device is dealt the tokens of its neighbours' cells (`toks_around`). The credit a device waits with is what the
others owe to its cells: summed over the devices, what is owed and what is due in are the same (`sum_owed`).
-/
module

public import proofs.«01_k».proof.Proof.Ideal.Whole
public import Idealize.ShloMosaic.Lib.Pipeline.Kit
public import Idealize.ShloMosaic.Lib.Pipeline.Launch

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] (I : Ins F)

local notation "𝕄" => MT nD τ sig Unit (Elt F) ℕ UU ℕ

theorem zipAll {J : Type} [Fintype J] {Φ Ψ : J → sProp 𝕄} : iprop(bigSep Finset.univ Φ ∗ bigSep Finset.univ Ψ) ⊢ bigSep Finset.univ fun j => iprop(Φ j ∗ Ψ j) :=
  Entails.of_eq (bigSep_sep' _ _ _).symm
theorem unzipAll {J : Type} [Fintype J] {Φ Ψ : J → sProp 𝕄} : (bigSep Finset.univ fun j => iprop(Φ j ∗ Ψ j)) ⊢ iprop(bigSep Finset.univ Φ ∗ bigSep Finset.univ Ψ) :=
  Entails.of_eq (bigSep_sep' _ _ _)

/-! ## The tokens -/

/-- A duty of a device: one of the two at the barrier, or the one at a cell of its own. -/
abbrev Duty : Type := Bool ⊕ Own
def dutySem : Duty → SemLoc sig
  | .inl _ => .reg barS
  | .inr k => osem k
def dutyWho : Duty → Bool
  | .inl b => b
  | .inr _ => false
theorem duty_inj : Function.Injective fun k : Duty => (dutySem k, dutyWho k) := by
  rintro (a | a) (b | b) h
  · exact congrArg Sum.inl (congrArg Prod.snd h)
  · exact absurd (congrArg Prod.fst h).symm (osem_bar b)
  · exact absurd (congrArg Prod.fst h) (osem_bar a)
  · exact congrArg Sum.inr (osem_inj (congrArg Prod.fst h))
def minted : Finset (GSem nD τ sig × ℕ × Bool) :=
  Finset.univ.map ⟨fun ck : Dev nD × Duty => (cell ck.1 (dutySem ck.2), 0, dutyWho ck.2), fun _ _ h =>
    Prod.ext (cellOf_ne (congrArg Prod.fst h)).1
      (duty_inj (Prod.ext (cellOf_ne (congrArg Prod.fst h)).2 (congrArg (fun t => t.2.2) h)))⟩

/-- The tokens of device `c`'s own cells. -/
def toksAt (c : Dev nD) : sProp 𝕄 :=
  iprop((dutyTok ER (cell c (.reg barS)) 0 false ∗ dutyTok ER (cell c (.reg barS)) 0 true)
    ∗ ((dutyTok ER (cell c (.dma (hsS 0))) 0 false ∗ dutyTok ER (cell c (.dma (hsS 1))) 0 false)
      ∗ (dutyTok ER (cell c (.dma (hrS 0))) 0 false ∗ dutyTok ER (cell c (.dma (hrS 1))) 0 false))
    ∗ ((bigSep Finset.univ (fun p : Fin 16 => dutyTok ER (cell c (.dma (psS p))) 0 false)
        ∗ bigSep Finset.univ (fun p : Fin 16 => dutyTok ER (cell c (.dma (prS p))) 0 false))
      ∗ (dutyTok ER (cell c (.reg ackS)) 0 false ∗ dutyTok ER (cell c (.reg exitS)) 0 false)))

theorem minted_eq : bigSep minted (fun x => (dutyTok ER x.1 x.2.1 x.2.2 : sProp 𝕄)) = bigSep Finset.univ fun c : Dev nD => toksAt c := by
  unfold minted; rw [bigSep_map, bigSep_univ_prod]
  refine bigSep_congr fun c _ => ?_
  rw [bigSep_univ_sum, own_eq, show (Finset.univ : Finset Bool) = {false, true} from by decide, bigSep_insert (by decide), bigSep_singleton]
  rfl

/-- The tokens a device pays with are its neighbours' and its own. -/
theorem toks_around : (bigSep Finset.univ fun c : Dev nD => (toksAt c : sProp 𝕄)) ⊢ bigSep Finset.univ fun c : Dev nD => toks c := by
  unfold toksAt toks
  simp only [bigSep_sep']
  rw [bigSep_univ_equiv xnE (fun c : Dev nD => (dutyTok ER (cell c (.reg barS)) 0 false : sProp 𝕄)),
    bigSep_univ_equiv ynE (fun c : Dev nD => (dutyTok ER (cell c (.reg barS)) 0 true : sProp 𝕄)),
    bigSep_univ_equiv xnE (fun c : Dev nD => (dutyTok ER (cell c (.dma (hrS 0))) 0 false : sProp 𝕄)),
    bigSep_univ_equiv xnE (fun c : Dev nD => (dutyTok ER (cell c (.dma (hrS 1))) 0 false : sProp 𝕄)),
    bigSep_univ_equiv ynE (fun c : Dev nD => (bigSep Finset.univ (fun p : Fin 16 => dutyTok ER (cell c (.dma (prS p))) 0 false) : sProp 𝕄)),
    bigSep_univ_equiv xnE (fun c : Dev nD => (dutyTok ER (cell c (.reg ackS)) 0 false : sProp 𝕄)),
    bigSep_univ_equiv ynE (fun c : Dev nD => (dutyTok ER (cell c (.reg exitS)) 0 false : sProp 𝕄))]
  exact BI.Entails.refl _

/-! ## The credit -/

/-- What the neighbour along the second axis owes to device `c`'s cells: the pieces and the exit. -/
def duePieces (c : Dev nD) : CellTallies nD τ sig Unit :=
  tallyAt (cell c (.reg exitS)) () 1 + ∑ p : Fin 16, tallyAt (cell c (.dma (prS p))) () NP
/-- What the neighbour along the first axis owes there. -/
def dueRow (c : Dev nD) : CellTallies nD τ sig Unit :=
  bif fst c then tallyAt (cell c (.reg ackS)) () 1
  else tallyAt (cell c (.dma (hrS 0))) () NX + tallyAt (cell c (.dma (hrS 1))) () NB
def due (c : Dev nD) : CellTallies nD τ sig Unit := (duePieces c + dueRow c) + tallyAt (cell c (.reg barS)) () 2

theorem owePieces_sum (c : Dev nD) : ∀ n, owePieces c n
    = tallyAt (cell (yn c) (.reg exitS)) () 1 + ∑ i ∈ Finset.range n, tallyAt (cell (yn c) (.dma (prS (Fin.ofNat 16 (15 - i))))) () NP
  | 0 => by rw [Finset.range_zero, Finset.sum_empty, add_zero]; rfl
  | n + 1 => by rw [Finset.sum_range_succ, ← add_assoc, ← owePieces_sum c n]; rfl
theorem owePieces_eq (c : Dev nD) : owePieces c 16 = duePieces (yn c) := by
  rw [owePieces_sum, Finset.sum_range]
  unfold duePieces
  refine congrArg _ ?_
  rw [← Equiv.sum_comp Fin.revPerm]
  refine Finset.sum_congr rfl fun p _ => ?_
  rw [show Fin.ofNat 16 (15 - (Fin.revPerm p).val) = p from Fin.ext (by
    show (15 - (Fin.rev p).val) % 16 = p.val
    rw [Fin.val_rev]; have := p.isLt; omega)]

theorem owed_eq (c : Dev nD) : O₀ c
    = ((duePieces (yn c) + dueRow (xn c)) + tallyAt (cell (yn c) (.reg barS)) () 1) + tallyAt (cell (xn c) (.reg barS)) () 1 := by
  unfold O₀ oweMid dueRow
  rw [owePieces_eq, fst_xn]
  cases fst c
  · rfl
  · exact congrArg (· + _ + _) ((add_right_comm _ _ _).trans (add_assoc _ _ _))

theorem sum_owed : (∑ c : Dev nD, O₀ c) = ∑ c, due c := by
  unfold due
  rw [Finset.sum_congr rfl fun c _ => owed_eq c]
  simp only [Finset.sum_add_distrib]
  rw [← Equiv.sum_comp ynE duePieces, ← Equiv.sum_comp xnE dueRow, add_assoc (_ + _)]
  refine congrArg₂ _ rfl ?_
  rw [Finset.sum_congr rfl fun (c : Dev nD) _ => (tallyAt_add (cell c (.reg barS)) () 1 1).symm, Finset.sum_add_distrib]
  exact congrArg₂ _ (Equiv.sum_comp ynE fun c : Dev nD => (tallyAt (cell c (.reg barS)) () 1 : CellTallies nD τ sig Unit))
    (Equiv.sum_comp xnE fun c : Dev nD => (tallyAt (cell c (.reg barS)) () 1 : CellTallies nD τ sig Unit))

/-- All of `O` is at cells of device `c`. -/
def At (c : Dev nD) (O : CellTallies nD τ sig Unit) : Prop := ∀ g, g.1 ≠ (c.tc : Thread nD τ) → O g = 0
theorem At.add {c : Dev nD} {O P : CellTallies nD τ sig Unit} (hO : At c O) (hP : At c P) : At c (O + P) := fun g h => by
  rw [Pi.add_apply, hO g h, hP g h, add_zero]
theorem At.tally (c : Dev nD) (s : SemLoc sig) (k : ℕ) : At c (tallyAt (cell c s) () k) := fun g h =>
  tallyAt_ne_cell (fun e => h (congrArg Prod.fst e)) () k
theorem At.sum {c : Dev nD} (f : Fin 16 → CellTallies nD τ sig Unit) (h : ∀ p, At c (f p)) : At c (∑ p, f p) := fun g hg => by
  rw [Finset.sum_apply]; exact Finset.sum_eq_zero fun p _ => h p g hg
theorem at_due (c : Dev nD) : At c (due c) := by
  unfold due duePieces dueRow
  refine ((((At.tally _ _ _).add (At.sum _ fun p => At.tally _ _ _))).add ?_).add (At.tally _ _ _)
  cases fst c
  · exact (At.tally _ _ _).add (At.tally _ _ _)
  · exact At.tally _ _ _

theorem launch_creds (c : Dev nD) : (Pipeline.launchCred O₀ c : sProp 𝕄) ⊢ creds c := by
  rw [Pipeline.launchCred_of_sum O₀ due sum_owed (fun d g h => by by_contra hn; exact h (at_due d g hn)) c]
  unfold due duePieces creds
  have hrow : (cred (dueRow c) : sProp 𝕄) ⊢ iprop(bif fst c then cred (tallyAt (cell c (.reg ackS)) () 1)
      else iprop(cred (tallyAt (cell c (.dma (hrS 0))) () NX) ∗ cred (tallyAt (cell c (.dma (hrS 1))) () NB))) := by
    unfold dueRow
    cases fst c
    · exact (cred_add _ _).1
    · exact BI.Entails.refl _
  have hsum := Pipeline.cred_finsetSum (nD := nD) (τ := τ) (sig := sig) (Ix := Unit) (Val := Elt F) (Name := ℕ) (U := UU) (Lvl := ℕ)
    Finset.univ (fun p : Fin 16 => tallyAt (cell c (.dma (prS p))) () NP)
  iintro H
  ihave H := (cred_add _ _).1 $$ H
  icases H with ⟨H, Hb⟩
  ihave H := (cred_add _ _).1 $$ H
  icases H with ⟨H, Hr⟩
  ihave H := (cred_add _ _).1 $$ H
  icases H with ⟨He, Hp⟩
  isplitl [Hb]; · iexact Hb
  isplitl [Hp]; · iapply (Entails.of_eq hsum); iexact Hp
  isplitl [He]; · iexact He
  iapply hrow; iexact Hr

/-! ## The cells -/

theorem cells_disjoint : Disjoint barCells ownCells := by
  rw [Finset.disjoint_left]
  rintro g h₁ h₂
  obtain ⟨c, -, rfl⟩ := Finset.mem_map.mp h₁
  obtain ⟨ck, -, h⟩ := Finset.mem_map.mp h₂
  exact osem_bar ck.2 (cellOf_ne h).2

/-- Everything of the launch, held in one place till it is dealt. -/
def allOn (X : sProp 𝕄) (c : Dev nD) : sProp 𝕄 := if c = ⟨0, by decide⟩ then X else iprop(emp)
theorem bigSep_allOn (X : sProp 𝕄) : bigSep Finset.univ (allOn X) = X := by
  rw [bigSep_univ_at _ (⟨0, by decide⟩ : Dev nD), bigSep_congr (s := Finset.univ.erase _) (Ψ := fun _ => (BI.emp : sProp 𝕄))
      fun c hc => by unfold allOn; rw [if_neg (Finset.ne_of_mem_erase hc)]; rfl, BI.bigSep_emp_const]
  unfold allOn; rw [if_pos rfl]
  exact BI.equiv_iff.mp sep_emp
def G : Dev nD → sProp 𝕄 := allOn (BI.own (ER (launchOf barCells ownCells minted)))

/-- What every device may consult. -/
def records (κ : GSem nD τ sig → ℕ) : sProp 𝕄 := iprop(invs I κ ∗ bigSep barCells fun g => reached ER g 0)
instance records_persistent (κ : GSem nD τ sig → ℕ) : BI.Persistent (records I κ) := by unfold records; infer_instance

theorem reached_bar (c : Dev nD) : (bigSep barCells fun g => (reached ER g 0 : sProp 𝕄)) ⊢ reached ER (cell c (.reg barS)) 0 :=
  bigSep_elim (i := cell c (.reg barS)) (Finset.mem_map_of_mem barEmb (Finset.mem_univ c))

/-- What a device holds of the protocol before the kernel is entered: its own cells are not yet open. -/
def held₀ (c : Dev nD) : sProp 𝕄 :=
  iprop(toks c ∗ creds c ∗ atPos ER (cell c (.reg barS)) 0 ∅ 0 ∗ bigSep Finset.univ fun k : Own => openTok ER (cell c (osem k)))
def Tk (c : Dev nD) : sProp 𝕄 :=
  iprop(∃ κ, (invs I κ ∗ reached ER (cell (xn c) (.reg barS)) 0 ∗ reached ER (cell (yn c) (.reg barS)) 0) ∗ held₀ c)
/-- And once it is entered. -/
def Xk (c : Dev nD) : sProp 𝕄 :=
  iprop(∃ κ, ctx I κ ∗ toks c ∗ creds c
    ∗ (reached ER (cell (xn c) (.reg barS)) 0 ∗ reached ER (cell (yn c) (.reg barS)) 0)
    ∗ atPos ER (cell c (.reg barS)) 0 ∅ 0
    ∗ bigSep Finset.univ (fun k : Own => atPos ER (cell c (osem k)) 0 ∅ 0) ∗ bigSep Finset.univ (fun k : Own => reached ER (cell c (osem k)) 0))

theorem tk_intro (κ : GSem nD τ sig → ℕ) (c : Dev nD) : iprop(records I κ ∗ held₀ c) ⊢ Tk I c := by
  unfold records Tk
  iintro ⟨⟨#HI, #HR⟩, H⟩
  iexists κ
  isplitr
  · isplitr; · iexact HI
    isplitr
    · iapply (reached_bar (F := F) (xn c)); iexact HR
    · iapply (reached_bar (F := F) (yn c)); iexact HR
  iexact H

theorem open_own (κ : GSem nD τ sig → ℕ) (c : Dev nD) :
    iprop(invs I κ ∗ bigSep Finset.univ fun k : Own => iprop(openTok ER (cell c (osem k)) ∗ semVal (cell c (osem k)) 0))
      ⊢ (|={Set.univ}=> bigSep Finset.univ fun k : Own => iprop(atPos ER (cell c (osem k)) 0 ∅ 0 ∗ reached ER (cell c (osem k)) 0) : sProp 𝕄) := by
  refine BIBase.Entails.trans (bigSep_with_persistent (S := Finset.univ) (R := invs I κ)
    (Φ := fun k : Own => iprop(openTok ER (cell c (osem k)) ∗ semVal (cell c (osem k)) 0))
    (Ψ := fun k : Own => iprop(|={Set.univ}=> (atPos ER (cell c (osem k)) 0 ∅ 0 ∗ reached ER (cell c (osem k)) 0))) ?_) (bigSep_fupd Finset.univ _)
  intro k _
  iintro ⟨#Hi, Ho, Hs⟩
  iapply (Rounds.cell_open ER (rd I) (g := cell c (osem k)) (Set.mem_univ (κ (cell c (osem k)))))
  isplitr; · iapply (inv_own I κ c k); iexact Hi
  isplitl [Ho]; · iexact Ho
  iexact Hs

theorem opening (c : Dev nD) : iprop(Tk I c ∗ Pipeline.ownSems0 osem c ∗ levAts L lv) ⊢ (|={Set.univ}=> Xk I c : sProp 𝕄) := by
  unfold Tk held₀ Xk Pipeline.ownSems0 ctx
  iintro ⟨⟨%κ, ⟨#HI, #Hx, #Hy⟩, Ht, Hc, Ha, Ho⟩, Hs, #Hl⟩
  imod (open_own I κ c) $$ [Ho Hs] with H
  · isplitr; · iexact HI
    iapply (zipAll (Φ := fun k : Own => (openTok ER (cell c (osem k)) : sProp 𝕄)) (Ψ := fun k : Own => semVal (cell c (osem k)) 0))
    isplitl [Ho]; · iexact Ho
    iexact Hs
  ihave H := (unzipAll (Φ := fun k : Own => (atPos ER (cell c (osem k)) 0 ∅ 0 : sProp 𝕄)) (Ψ := fun k : Own => reached ER (cell c (osem k)) 0)) $$ H
  icases H with ⟨Hp, Hr⟩
  imodintro
  iexists κ
  isplitr
  · isplitr; · iexact HI
    iexact Hl
  isplitl [Ht]; · iexact Ht
  isplitl [Hc]; · iexact Hc
  isplitr
  · isplitr; · iexact Hx
    iexact Hy
  isplitl [Ha]; · iexact Ha
  isplitl [Hp]; · iexact Hp
  iexact Hr

/-- The launch's element and the barrier counters, dealt. -/
theorem deal : iprop(bigSep Finset.univ (fun c : Dev nD => (semVal (cell c (.reg barS)) 0 : sProp 𝕄)) ∗ bigSep Finset.univ (G (F := F))
      ∗ bigSep Finset.univ (fun c : Dev nD => (creds c : sProp 𝕄)))
    ⊢ (|={Set.univ}=> bigSep Finset.univ fun c : Dev nD => Tk I c : sProp 𝕄) := by
  have hv : bigSep Finset.univ (fun c : Dev nD => (semVal (cell c (.reg barS)) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c (.reg barS)) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Own => (openTok ER (cell c (osem k)) : sProp 𝕄)) :=
    Entails.of_eq (by unfold ownCells; rw [bigSep_map, bigSep_univ_prod]; rfl)
  iintro ⟨Hv, HG, Hc⟩
  ihave Hu := (show bigSep Finset.univ (G (F := F)) ⊢ BI.own (ER (launchOf barCells ownCells minted)) from Entails.of_eq (bigSep_allOn _)) $$ HG
  imod (Rounds.fund_launch ER (rd I) cells_disjoint (fun g _ h => h) minted) $$ [Hv Hu] with ⟨%κ, -, #HI, #Hr, Hat, Ho, Ht⟩
  · isplitl [Hv]
    · iapply hv; iexact Hv
    · iexact Hu
  imodintro
  iapply (bigSep_with_persistent (R := records I κ) (Φ := fun c => held₀ c) fun c _ => tk_intro I κ c)
  isplitr
  · unfold records invs
    isplitr; · iexact HI
    iexact Hr
  unfold held₀
  iapply zipAll; isplitl [Ht]
  · iapply (toks_around (F := F)); iapply (Entails.of_eq (minted_eq (F := F))); iexact Ht
  iapply zipAll; isplitl [Hc]; · iexact Hc
  iapply zipAll; isplitl [Hat]; · iapply hat; iexact Hat
  iapply hopen; iexact Ho

end Cert.KernelIdeal.Scan

end
-- ==== Proof.Ideal.Launch.lean ====
/-
The program from its launch to its end.

On each device: the host operations, then the kernel over its staged operands. `run` says that from any memory with
every counter at zero each fair execution ends, the arguments unchanged, every counter at zero again, and the result array
holding `out` of the operands.
-/
module

public import proofs.«01_k».proof.Proof.Ideal.Ghost
public import proofs.«01_k».proof.Proof.Gen.KernelIdeal.Frame
public import Idealize.ShloMosaic.Lib.Pipeline.Regions
public import Idealize.ShloMosaic.Lib.Pipeline.RegionArrays
public import Idealize.ShloMosaic.Lib.Pipeline.RegionTalk
public import Idealize.ShloMosaic.Lib.StableHlo

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers before, between and after -/

/-- Device `c`'s buffers as launched, -/
def V₀ (c : Dev nD) : Valuation τ sig (Elt F) := fun b => m (c, b)
/-- after the host operations, -/
def V₁ (c : Dev nD) : Valuation τ sig (Elt F) := StableHlo.after hostOps0 (V₀ m c)

/-- The operands the kernel is handed. -/
def ins : Ins F where
  x c := V₁ m c main_arg0
  a c := V₁ m c main_v3
  b c := V₁ m c main_arg2
  l c := V₁ m c main_v17

/-- and after the kernel. -/
def V₂ (c : Dev nD) : Valuation τ sig (Elt F) := Function.update (V₁ m c) (Proc.devRef .tc main_v18) (out (ins m) c)

theorem V₂_out (c : Dev nD) : V₂ m c main_v18 = out (ins m) c := Function.update_self _ _ _
theorem V₂_ne (c : Dev nD) {b : DevRef τ sig} (h : b ≠ Proc.devRef .tc main_v18) : V₂ m c b = V₁ m c b := Function.update_of_ne h _ _
theorem V₂_ref (c : Dev nD) {b : Ref sig .tc} (h : b ≠ main_v18) : V₂ m c b = V₁ m c b := V₂_ne m c (StableHlo.devRef_ne_of_ne h)

/-! ## The proof data of the region -/

abbrev adm : (p : Fin 1) → (pcfgs (F := F) p).Adm := fun p => (cfgs p).toPCfg_adm

/-- What the kernel holds beside its staged operands, before and after. -/
def Φ₀ (c : Dev nD) : sProp 𝕄 := iprop(Xk (ins m) c ∗ scratch c ∗ ∃ r, prngReg c r)
def Φ₁ (c : Dev nD) : sProp 𝕄 :=
  iprop(semVal (cell c (.reg barS)) 0 ∗ bigSep Finset.univ (fun k : Own => semVal (cell c (osem k)) 0) ∗ scratch c ∗ ∃ r, prngReg c r)

def pdats (_ : Fin 1) (c : Dev nD) : Dat τ (Elt F) Unit ℕ UU ℕ cfg0 c where
  A w := V₁ m c (Proc.devRef .tc (Pipeline.arrRef spec0 w))
  after w _ := match w with
    | ⟨0, _⟩ => (ins m).x c
    | ⟨1, _⟩ => (ins m).a c
    | ⟨2, _⟩ => (ins m).b c
    | ⟨3, _⟩ => (ins m).l c
    | ⟨4, _⟩ => out (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (pdats m 0 c).share w = fullShare := by unfold Dat.share; split <;> rfl

/-- Each window's one block is its whole array. -/
theorem blk_0 (f : main_arg0.ty.Contents (Elt F)) : ((cfg0.win 0).blk t0_0).view.read (Elt F) f = f :=
  funext fun j => congrArg f (funext fun a => Fin.ext (by fin_cases a <;> exact (Nat.zero_add _).trans (Nat.one_mul _)))
theorem blk_1 (f : main_v3.ty.Contents (Elt F)) : ((cfg0.win 1).blk t0_0).view.read (Elt F) f = f :=
  funext fun j => congrArg f (funext fun a => Fin.ext (by fin_cases a <;> exact (Nat.zero_add _).trans (Nat.one_mul _)))
theorem blk_2 (f : main_arg2.ty.Contents (Elt F)) : ((cfg0.win 2).blk t0_0).view.read (Elt F) f = f :=
  funext fun j => congrArg f (funext fun a => Fin.ext (by fin_cases a <;> exact (Nat.zero_add _).trans (Nat.one_mul _)))
theorem blk_3 (f : main_v17.ty.Contents (Elt F)) : ((cfg0.win 3).blk t0_0).view.read (Elt F) f = f :=
  funext fun j => congrArg f (funext fun a => Fin.ext (by fin_cases a <;> exact (Nat.zero_add _).trans (Nat.one_mul _)))
theorem blk_4 (f : main_v18.ty.Contents (Elt F)) : ((cfg0.win 4).blk t0_0).view.read (Elt F) f = f :=
  funext fun j => congrArg f (funext fun a => Fin.ext (by fin_cases a <;> exact (Nat.zero_add _).trans (Nat.one_mul _)))

theorem before_0 (c : Dev nD) (d) : (pdats m 0 c).before (0 : Fin 5) t0_0 d = (ins m).x c := by
  unfold Dat.before; rw [if_pos (fetch0_0 t0_0)]; exact blk_0 (F := F) (V₁ m c main_arg0)
theorem before_1 (c : Dev nD) (d) : (pdats m 0 c).before (1 : Fin 5) t0_0 d = (ins m).a c := by
  unfold Dat.before; rw [if_pos (fetch0_1 t0_0)]; exact blk_1 (F := F) (V₁ m c main_v3)
theorem before_2 (c : Dev nD) (d) : (pdats m 0 c).before (2 : Fin 5) t0_0 d = (ins m).b c := by
  unfold Dat.before; rw [if_pos (fetch0_2 t0_0)]; exact blk_2 (F := F) (V₁ m c main_arg2)
theorem before_3 (c : Dev nD) (d) : (pdats m 0 c).before (3 : Fin 5) t0_0 d = (ins m).l c := by
  unfold Dat.before; rw [if_pos (fetch0_3 t0_0)]; exact blk_3 (F := F) (V₁ m c main_v17)

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owes_elim (c : Dev nD) : ((pdats (F := F) m 0 c).owesAt () (Fin.castSucc t0_0) : sProp 𝕄) ⊢ owing c (O₀ c) := by
  unfold Dat.owesAt Pipeline.owesWithin
  rw [show (pdats m 0 c).owed (Fin.castSucc t0_0) = O₀ c from rfl]
  iintro ⟨%W, -, HO⟩; iexists W; iexact HO
theorem owes_intro (c : Dev nD) : (owing c 0 : sProp 𝕄) ⊢ (pdats (F := F) m 0 c).owesAt () (Fin.succ t0_0) := by
  unfold Dat.owesAt Pipeline.owesWithin
  rw [show (pdats m 0 c).owed (Fin.succ t0_0) = 0 from rfl]
  iintro ⟨%W, HO⟩; iexists W; isplitr; · ipureintro; exact fun _ _ => Or.inl trivial
  iexact HO

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem stg_elim {c : Dev nD} {b : Ref sig .tc} {D : Type} {X : D → b.ty.Contents (Elt F)} {Y : b.ty.Contents (Elt F)} (h : ∀ d, X d = Y) :
    iprop(∃ d, stg c b (X d)) ⊢ (bufAt c b fullShare Y : sProp 𝕄) := by
  iintro ⟨%d, %f, %hf, H⟩
  obtain rfl : f = Y := hf.trans (h d)
  iexact H
theorem stg_any {c : Dev nD} {b : Ref sig .tc} {D : Type} {X : D → b.ty.Contents (Elt F)} :
    iprop(∃ d, stg c b (X d)) ⊢ (bufAny c b : sProp 𝕄) := by
  iintro ⟨%d, %f, -, H⟩
  iexists f; iexact H
theorem stg_intro {c : Dev nD} {b : Ref sig .tc} {Y : b.ty.Contents (Elt F)} : (bufAt c b fullShare Y : sProp 𝕄) ⊢ stg c b Y := by
  iintro H; iexists Y; isplitr; · ipureintro; rfl
  iexact H

def pre (c : Dev nD) : sProp 𝕄 :=
  iprop(Φ₀ m c ∗ (pdats m 0 c).owesAt () (Fin.castSucc t0_0)
    ∗ (∃ d, stg c cc0_stg0_0 ((pdats m 0 c).before (0 : Fin 5) t0_0 d))
    ∗ (∃ d, stg c cc0_stg1_0 ((pdats m 0 c).before (1 : Fin 5) t0_0 d))
    ∗ (∃ d, stg c cc0_stg2_0 ((pdats m 0 c).before (2 : Fin 5) t0_0 d))
    ∗ (∃ d, stg c cc0_stg3_0 ((pdats m 0 c).before (3 : Fin 5) t0_0 d))
    ∗ (∃ d, stg c cc0_stg4_0 ((pdats m 0 c).before (4 : Fin 5) t0_0 d)))
def post (c : Dev nD) : sProp 𝕄 :=
  iprop(Φ₁ c ∗ (pdats m 0 c).owesAt () (Fin.succ t0_0)
    ∗ stg c cc0_stg0_0 ((ins m).x c) ∗ stg c cc0_stg1_0 ((ins m).a c) ∗ stg c cc0_stg2_0 ((ins m).b c) ∗ stg c cc0_stg3_0 ((ins m).l c)
    ∗ stg c cc0_stg4_0 (out (ins m) c))

theorem body_run (c : Dev nD) : pre m c ⊢ WP c printed (fun _ => post m c) := by
  unfold WP
  rw [body_eq, wp_deviceId]
  unfold pre Φ₀ Xk
  iintro ⟨⟨⟨%κ, Hi, Ht, Hc, Hr, Ha, Hp, Hq⟩, Hs, Hg⟩, HO, H0, H1, H2, H3, H4⟩
  iapply (wp_body (ins m) κ (c := c) (Q := fun _ => post m c))
  isplitl [Hi Ht Hc Hr Ha Hp Hq Hs HO H0 H1 H2 H3 H4]
  · unfold bodyPre operands
    isplitl [Hi]; · iexact Hi
    isplitl [HO]; · iapply (owes_elim m c); iexact HO
    isplitl [Ht]; · iexact Ht
    isplitl [Hc]; · iexact Hc
    isplitl [Hr]; · iexact Hr
    isplitl [Ha]; · iexact Ha
    isplitl [Hp]; · iexact Hp
    isplitl [Hq]; · iexact Hq
    isplitl [H0 H1 H2 H3]
    · isplitl [H0]; · iapply (stg_elim (before_0 m c)); iexact H0
      isplitl [H1]; · iapply (stg_elim (before_1 m c)); iexact H1
      isplitl [H2]; · iapply (stg_elim (before_2 m c)); iexact H2
      iapply (stg_elim (before_3 m c)); iexact H3
    isplitl [H4]; · iapply stg_any; iexact H4
    iexact Hs
  unfold bodyPost operands post Φ₁
  iintro ⟨HO, Hb, Ho, ⟨H0, H1, H2, H3⟩, H4, Hs⟩
  isplitl [Hb Ho Hs Hg]
  · isplitl [Hb]; · iexact Hb
    isplitl [Ho]; · iexact Ho
    isplitl [Hs]; · iexact Hs
    iexact Hg
  isplitl [HO]; · iapply (owes_intro m c); iexact HO
  isplitl [H0]; · iapply stg_intro; iexact H0
  isplitl [H1]; · iapply stg_intro; iexact H1
  isplitl [H2]; · iapply stg_intro; iexact H2
  isplitl [H3]; · iapply stg_intro; iexact H3
  iapply stg_intro; iexact H4

set_option maxRecDepth 4000 in
theorem body_obligation (c : Dev nD) : BodyObligation (pdats (F := F) m 0 c) (defs₀ (F := F)) 𝒱₀ () Set.univ := fun t => by
  obtain rfl := fin_N0 t
  rw [bigSep_W0, bigSep_W0]
  simp only [owns_whole]
  exact body_run m c

/-! ## The segments -/

theorem uc_sub : ∀ op ∈ (hostOps0 : List (HloOp τ sig (Elt F))), op.bufs ⊆ Pipeline.ucRefs τ sig :=
  fun op h => Pipeline.sub_ucRefs op (List.forall_iff_forall_mem.mp hostOps0_sub op h)
theorem uc_fresh : ∀ op ∈ (hostOps0 : List (HloOp τ sig (Elt F))), op.fresh = ∅ := List.forall_iff_forall_mem.mp hostOps0_fresh

abbrev arrs : Finset (DevRef τ sig) := Pipeline.arrRefs (τ := τ) spec0
abbrev rest : Finset (DevRef τ sig) := Pipeline.ucRefs τ sig \ arrs

theorem arrs_sub : arrs ⊆ Pipeline.ucRefs τ sig := Pipeline.arrRefs_sub_ucRefs spec0 (by decide)
theorem held_all (c : Dev nD) (V : Valuation τ sig (Elt F)) :
    (StableHlo.held (c : Thread nD τ) (Pipeline.ucRefs τ sig) V : sProp 𝕄)
      = iprop(StableHlo.held (c : Thread nD τ) arrs V ∗ StableHlo.held (c : Thread nD τ) rest V) :=
  StableHlo.held_sub_split (c : Thread nD τ) arrs_sub V
theorem rest_ne {b : DevRef τ sig} (hb : b ∈ rest) : b ≠ Proc.devRef .tc main_v18 := by
  rintro rfl
  exact (Finset.mem_sdiff.mp hb).2 (Finset.mem_map.mpr ⟨main_v18, Finset.mem_image.mpr ⟨(4 : Fin 5), Finset.mem_univ _, rfl⟩, rfl⟩)

/-- What rides along beside the buffers. -/
def side (c : Dev nD) : sProp 𝕄 := iprop((∃ r, prngReg c r) ∗ Tk (ins m) c ∗ owing c (O₀ c))

def seg0 : Pipeline.HostSeg (Name := ℕ) (U := UU) (pcfgs (F := F)) defs₀ 𝒱₀ L lv :=
  Pipeline.HostSeg.ofOps _ _ _ _ _ (Pipeline.ucRefs τ sig) hostOps0 uc_sub uc_fresh (V₀ m) (side m)

theorem enter (c : Dev nD) : iprop(Pipeline.scopedRest (Pipeline.pin (pcfgs (F := F)) adm 0).spec c ∗ (∃ r, prngReg c r)
      ∗ StableHlo.held (c.tc : Thread nD τ) ∅ (V₁ m c) ∗ Xk (ins m) c)
    ⊢ (pdats m 0 c).Φ 0 := by
  rw [show (pdats m 0 c).Φ 0 = Φ₀ m c from rfl]
  have e := scopedRest0_eq (Ix := Unit) (Val := Elt F) (Name := ℕ) (U := UU) (Lvl := ℕ) c
  unfold Φ₀ scratch
  iintro ⟨Hs, Hp, -, HX⟩
  isplitl [HX]; · iexact HX
  isplitl [Hs]; · iapply (Entails.of_eq e); iexact Hs
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (cell c (.reg barS)) 0) := by
  rw [show (pdats m 0 c).Φ (Fin.last _) = Φ₁ c from rfl]
  have e := scopedRest0_eq (Ix := Unit) (Val := Elt F) (Name := ℕ) (U := UU) (Lvl := ℕ) c
  unfold Φ₁ scratch
  iintro ⟨Hb, Ho, Hs, Hp⟩
  isplitl [Hs]; · iapply (Entails.of_eq e.symm); iexact Hs
  isplitl [Hp]; · iexact Hp
  isplitr
  · unfold StableHlo.held; rw [bigSep_empty]; iempintro
  isplitl [Ho]; · unfold Pipeline.ownSems0; iexact Ho
  iexact Hb

theorem own_facts : Pipeline.OwnSemFacts spec0 osem := by decide

theorem arr_last (c : Dev nD) : ∀ w : Fin 5, (pdats m 0 c).arrAt w 1 = V₂ m c (Proc.devRef .tc (Pipeline.arrRef spec0 w))
  | 0 => ((pdats m 0 c).arrAt_in (0 : Fin 5) rfl _).trans (V₂_ref m c (b := main_arg0) (by decide)).symm
  | 1 => ((pdats m 0 c).arrAt_in (1 : Fin 5) rfl _).trans (V₂_ref m c (b := main_v3) (by decide)).symm
  | 2 => ((pdats m 0 c).arrAt_in (2 : Fin 5) rfl _).trans (V₂_ref m c (b := main_arg2) (by decide)).symm
  | 3 => ((pdats m 0 c).arrAt_in (3 : Fin 5) rfl _).trans (V₂_ref m c (b := main_v17) (by decide)).symm
  | 4 => by
    refine Eq.trans ?_ (V₂_out m c).symm
    have h := (pdats m 0 c).arrAt_succ (4 : Fin 5) t0_0
    rw [if_pos (flush0_4 t0_0)] at h
    refine (blk_4 (F := F) _).symm.trans ((congrArg _ h).trans ?_)
    exact View.read_write_univ _ _

theorem lv_stage (w : Fin 5) (s : Fin (spec0 w).nbuf) : lvl (role (.dma ((spec0 w).sem s))) = 0 := by
  fin_cases w <;> fin_cases s <;> rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ rest (Finset.empty_subset _) launch0.toP rfl (fun c => (body_obligation m c).loose)
    (fun _ => 0) O₀ (fun c => (zero_add _).symm) (fun _ => rfl) (fun _ => rfl) (share_eq m)
    (V₁ m) (V₂ m) (fun c _ hb => V₂_ne m c (rest_ne (Finset.mem_sdiff.mp hb).1))
    (Tk (ins m)) (fun c => semVal (cell c (.reg barS)) 0) (Xk (ins m)) (fun c => semVal (cell c (.reg barS)) 0)
    (opening (ins m)) (enter m) (leave m) (fun c => by iintro H; imodintro; iexact H)
    (fun _ => 0)
    ⟨fun c w s => by rw [L_tc]; exact Finset.mem_singleton_self _, fun c w s => le_of_eq (lv_stage w s),
      fun c t g i h => by
        rcases t with ⟨_ | n, ht⟩
        · obtain ⟨h1, h2⟩ := above_all c g i h
          exact ⟨by unfold L; rw [if_pos h1]; exact Finset.mem_singleton_self _, h2⟩
        · exact absurd h (Nat.lt_irrefl 0)⟩
    (fun _ => iprop(emp))
    (fun _ _ => rfl) (arr_last m)

theorem reg0_pre (c : Dev nD) : iprop(StableHlo.held (c : Thread nD τ) (Pipeline.ucRefs τ sig) (V₁ m c) ∗ side m c) ⊢ (reg0 m).pre c := by
  show _ ⊢ iprop(StableHlo.held (c.tc : Thread nD τ) arrs (V₁ m c) ∗ (∃ r, prngReg c r)
    ∗ (StableHlo.held (c.tc : Thread nD τ) rest (V₁ m c) ∗ emp) ∗ Tk (ins m) c ∗ ∃ Wd, owes (c : Thread nD τ) (0 + O₀ c) Wd)
  rw [held_all, zero_add]
  unfold side
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop((StableHlo.held (c : Thread nD τ) (Pipeline.ucRefs τ sig) (V₂ m c) ∗ semVal (cell c (.reg barS)) 0)
      ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) rest (V₂ m c) ∗ emp) ∗ semVal (cell c (.reg barS)) 0
    ∗ ∃ Wd, owes (c : Thread nD τ) (0 : CellTallies nD τ sig Unit) Wd) ⊢ _
  rw [held_all]
  iintro ⟨Ha, -, ⟨Hr, -⟩, Hb, HO⟩
  isplitr [HO]
  · isplitl [Ha Hr]
    · isplitl [Ha]; · iexact Ha
      iexact Hr
    iexact Hb
  iexact HO

/-! ## The launch -/

/-- The element the launch starts from. -/
def u₀ : UU :=
  (initOf (Pipeline.cells (Pipeline.pin (pcfgs (F := F)) adm) cellOf_inj) (Pipeline.launchToks (Pipeline.pin (pcfgs (F := F)) adm) cellOf_inj),
    launchOf barCells ownCells minted)

abbrev T₀ (c : Dev nD) : sProp 𝕄 := iprop(StableHlo.held (c : Thread nD τ) (Pipeline.ucRefs τ sig) (V₀ m c) ∗ side m c)
abbrev Tₙ (c : Dev nD) : sProp 𝕄 :=
  iprop(StableHlo.held (c : Thread nD τ) (Pipeline.ucRefs τ sig) (V₂ m c) ∗ semVal (cell c (.reg barS)) 0)

theorem unscoped_eq : ∀ sm : SemLoc sig, sm.isScoped .tc = false → sm = .reg barS := by decide
theorem unscoped_sems (c : Dev nD) : (unscopedSems0 c : sProp 𝕄) = semVal (cell c (.reg barS)) 0 := by
  unfold unscopedSems0
  rw [show (Finset.univ.filter fun sm : SemLoc sig => ¬ sm.isScoped .tc) = {SemLoc.reg barS} from by decide, bigSep_singleton]

/-- What a device keeps from the launch beside the protocol. -/
def kept (c : Dev nD) : sProp 𝕄 :=
  iprop(StableHlo.held (c : Thread nD τ) (Pipeline.ucRefs τ sig) (V₀ m c) ∗ (∃ r, prngReg c r) ∗ owing c (O₀ c))

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(kept m c ∗ (semVal (cell c (.reg barS)) 0 ∗ G c ∗ creds c)) : sProp 𝕄) := by
    have hb := Pipeline.unscopedBufs_held (Ix := Unit) (Name := ℕ) (U := UU) (Lvl := ℕ) c (V₀ m c)
    unfold kept
    iintro ⟨Hh, Hus, HO, Hcr, Hp, HG⟩
    isplitl [Hh HO Hp]
    · isplitl [Hh]; · iapply (Entails.of_eq hb); iexact Hh
      isplitl [Hp]; · iexists (ρ c); iexact Hp
      iexists ∅; iexact HO
    isplitl [Hus]; · iapply (Entails.of_eq (unscoped_sems (F := F) c)); iexact Hus
    isplitl [HG]; · iexact HG
    iapply (launch_creds c); iexact Hcr
  have hT (c : Dev nD) : iprop(kept m c ∗ Tk (ins m) c) ⊢ T₀ m c := by
    unfold kept T₀ side
    iintro ⟨⟨Hh, Hp, HO⟩, HT⟩
    isplitl [Hh]; · iexact Hh
    isplitl [Hp]; · iexact Hp
    isplitl [HT]; · iexact HT
    iexact HO
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(kept m c ∗ (semVal (cell c (.reg barS)) 0 ∗ G c ∗ creds c)) : sProp 𝕄) from
    bigSep_mono fun c _ => hcore c) $$ H
  ihave H := unzipAll $$ H; icases H with ⟨Hk, H⟩
  ihave H := unzipAll $$ H; icases H with ⟨Hb, H⟩
  ihave H := unzipAll $$ H; icases H with ⟨HG, Hc⟩
  imod (deal (ins m)) $$ [Hb HG Hc] with HT
  · isplitl [Hb]; · iexact Hb
    isplitl [HG]; · iexact HG
    iexact Hc
  imodintro
  iapply (show (bigSep Finset.univ fun c : Dev nD => iprop(kept m c ∗ Tk (ins m) c) : sProp 𝕄) ⊢ bigSep Finset.univ (T₀ m) from
    bigSep_mono fun c _ => hT c)
  iapply zipAll
  isplitl [Hk]; · iexact Hk
  iexact HT

/-! ## The run -/

theorem mem_uc (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

def segs : List (Pipeline.Seg (Name := ℕ) (U := UU) (pcfgs (F := F)) adm (pdats m) () defs₀ 𝒱₀ L lv) := [.host (seg0 m), .region (reg0 m)]

set_option backward.isDefEq.respectTransparency.types false in
/-- From any memory with zero counters every fair execution ends, with the buffers at `V₂` and every counter at zero. -/
theorem run : θ_run defs (onTc (τ := τ) (main (F := F))) ⟨m, fun _ => 0, ρ⟩
    (fun r => (∀ c : Dev nD, ∀ b ∈ Pipeline.ucRefs τ sig, r.2.mem (c, b) = V₂ m c b) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_allOn]; iexact HX)
    (T₀ := T₀ m) (Tₙ := Tₙ m)
    (hch := ⟨fun c => .rfl, fun c => reg0_pre m c, fun c => reg0_post m c⟩)
    (hinit := init m ρ)
    (QY := fun c s => (∀ b ∈ Pipeline.ucRefs τ sig, s.mem (c, b) = V₂ m c b) ∧ s.sem (cell c (.reg barS)) = 0)
    (hfin := fun c s' => by
      dsimp only [Tₙ]; unfold StableHlo.held
      iintro ⟨⟨Hh, Hb⟩, HSI⟩
      icombine HSI Hb gives %hb
      ihave %hh := (SI_pointsTo_bufs_agree (qs := fun _ => fullShare) (Pipeline.ucRefs τ sig)) $$ [HSI Hh]
      · isplitl [HSI] <;> iassumption
      imodintro
      isplitr
      · ipureintro
        exact ⟨hh, by simpa using hb⟩
      iexact HSI)
    (hQ := fun s h hs => ⟨fun c => (h c).1,
      sem_eq_zero hs fun c sm hsm => by
        obtain rfl := unscoped_eq sm hsm
        exact (h c).2⟩)

end Cert.KernelIdeal.Scan

end
-- ==== Proof.Ideal.Ends.lean ====
/-
What a run of the whole program leaves, in the words of the claims: on each device the result array holds `out` of the
operands and the four arguments are as they were; every counter is at zero.
-/
module

public import proofs.«01_k».proof.Proof.Ideal.Launch

@[expose] public section

noncomputable section

namespace Cert.KernelIdeal.Scan

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Device `c`'s arguments in a final memory `m'` are those of `m`. -/
def Kept (m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)

theorem ends : θ_run defs (onTc (τ := τ) (main (F := F))) ⟨m, fun _ => 0, ρ⟩ (fun r =>
    (∀ c : Dev nD, r.2.mem ((c.tc : Thread nD τ).loc main_v18) = out (ins m) c ∧ Kept m r.2.mem c) ∧ r.2.sem = fun _ => 0) :=
  (θ_run defs _ _).mono (fun _ h => ⟨fun c =>
    ⟨(h.1 c _ (mem_uc main_v18 rfl)).trans (V₂_out m c),
      (h.1 c _ (mem_uc main_arg0 rfl)).trans ((V₂_ref m c (b := main_arg0) (by decide)).trans (V_main_arg0 m c)),
      (h.1 c _ (mem_uc main_arg1 rfl)).trans ((V₂_ref m c (b := main_arg1) (by decide)).trans (V_main_arg1 m c)),
      (h.1 c _ (mem_uc main_arg2 rfl)).trans ((V₂_ref m c (b := main_arg2) (by decide)).trans (V_main_arg2 m c)),
      (h.1 c _ (mem_uc main_arg3 rfl)).trans ((V₂_ref m c (b := main_arg3) (by decide)).trans (V_main_arg3 m c))⟩, h.2⟩) (run m ρ)

end Cert.KernelIdeal.Scan

end
-- ==== Proof.Value.Scan.lean ====
/-
The recurrence the claim is about, on extended reals.

`run a u h` is the state after each step from the state `h`: every step multiplies by `a` and adds the step's input. `win`
reads a quarter of a sequence of 2048 rows together with the 16 rows before it, zero where there is none. `spec` is the
result: for each row the state of its quarter's window there, weighted by `C` and summed over the 32 components.
-/
module

public import Idealize.ShloMosaic.Lib.Pointwise

@[expose] public section

noncomputable section

namespace Cert.Scan

open Idealize.ShloMosaic

/-- The state after `n` steps from `h`. -/
def run (a : EReal) (u : ℕ → EReal) (h : EReal) : ℕ → EReal
  | 0 => h
  | n + 1 => run a u h n * a + u n

theorem run_congr (a : EReal) {u v : ℕ → EReal} (h : EReal) : ∀ (n : ℕ), (∀ t, t < n → u t = v t) → run a u h n = run a v h n
  | 0, _ => rfl
  | n + 1, e => by rw [run, run, run_congr a h n fun t ht => e t (Nat.lt_succ_of_lt ht), e n (Nat.lt_succ_self n)]

/-- Steps from where earlier steps ended. -/
theorem run_add (a : EReal) (u : ℕ → EReal) (h : EReal) (m : ℕ) : ∀ n, run a u h (m + n) = run a (fun t => u (m + t)) (run a u h m) n
  | 0 => rfl
  | n + 1 => by rw [Nat.add_succ, run, run, run_add a u h m n]

/-- Nothing comes of nothing. -/
theorem run_zero (a : EReal) {u : ℕ → EReal} : ∀ (n : ℕ), (∀ t, t < n → u t = 0) → run a u 0 n = 0
  | 0, _ => rfl
  | n + 1, e => by rw [run, run_zero a n fun t ht => e t (Nat.lt_succ_of_lt ht), e n (Nat.lt_succ_self n), zero_mul, zero_add]

/-- Row `t` of the window of quarter `q`. -/
def win (f : Fin 2048 → EReal) (q t : ℕ) : EReal :=
  if h : 16 ≤ 512 * q + t ∧ 512 * q + t - 16 < 2048 then f ⟨512 * q + t - 16, h.2⟩ else 0

theorem win_eq (f : Fin 2048 → EReal) {q t : ℕ} (r : Fin 2048) (h : 512 * q + t = r.val + 16) : win f q t = f r := by
  have := r.isLt
  unfold win
  rw [dif_pos ⟨by omega, by omega⟩]
  exact congrArg f (Fin.ext (by simp only; omega))

theorem win_low (f : Fin 2048 → EReal) {q t : ℕ} (h : 512 * q + t < 16) : win f q t = 0 := by
  unfold win; exact dif_neg fun h' => by omega

/-- What the step at row `t` of a window adds. -/
def inp (X : (⟨3, ![4, 2048, 1024]⟩ : Shape).Idx → EReal) (B : (⟨3, ![4, 2048, 32]⟩ : Shape).Idx → EReal) (b : Fin 4) (n : Fin 32)
    (d : Fin 1024) (q t : ℕ) : EReal :=
  win (fun r => X (ix3 b r d)) q t * win (fun r => B (ix3 b r n)) q t

/-- The state of the window of quarter `q` after `t` rows. -/
def st (X : (⟨3, ![4, 2048, 1024]⟩ : Shape).Idx → EReal) (A : (⟨2, ![1024, 32]⟩ : Shape).Idx → EReal)
    (B : (⟨3, ![4, 2048, 32]⟩ : Shape).Idx → EReal) (b : Fin 4) (n : Fin 32) (d : Fin 1024) (q t : ℕ) : EReal :=
  run (Ideal.exp (A (ix2 d n))) (inp X B b n d q) 0 t

/-- The result. -/
def spec (X : (⟨3, ![4, 2048, 1024]⟩ : Shape).Idx → EReal) (A : (⟨2, ![1024, 32]⟩ : Shape).Idx → EReal)
    (B C : (⟨3, ![4, 2048, 32]⟩ : Shape).Idx → EReal) : (⟨3, ![4, 2048, 1024]⟩ : Shape).Idx → EReal := fun i =>
  ∑ n : Fin 32, st X A B (i 0) n (i 2) ((i 1).val / 512) ((i 1).val % 512 + 17) * C (ix3 (i 0) (i 1) n)

end Cert.Scan

end
-- ==== Proof.Ideal.Elems.lean ====
/-
The body's arithmetic read at an index, on extended reals: one step of the state, a row of the result, what the loads
read of the operands. Narrowing and widening are the identity here.
-/
module

public import proofs.«01_k».proof.Proof.Ideal.Pieces
public import proofs.«01_k».proof.Proof.Value.Scan

@[expose] public section

noncomputable section

namespace Cert.KernelIdeal.Scan

open Cert.KernelIdeal Cert.KernelIdeal.Gen
open Idealize.ShloMosaic Idealize.ShloMosaic.TcCoe

/-! ## One step -/

theorem decay_apply (a : FVec Ideal S32x1024 .bf16) (z : Fin 1) (n : Fin 32) (d : Fin 1024) :
    decay (F := Ideal) a (ix3 z n d) = a (ix2 n d) := by
  unfold decay; pointwise

theorem hstep_apply (a : FVec Ideal S1x32x1024 .bf16) (xt : FVec Ideal S4x1x1024 .bf16) (bt : FVec Ideal S4x32x1 .bf16)
    (h : FVec Ideal S4x32x1024 .bf16) (b : Fin 4) (n : Fin 32) (d : Fin 1024) :
    hstep a xt bt h (ix3 b n d) = h (ix3 b n d) * a (ix3 0 n d) + xt (ix3 b 0 d) * bt (ix3 b n 0) := by
  unfold hstep; pointwise

theorem xin_apply (v : FVec Ideal S4x32x1024 .f32) (b : Fin 4) (k : Fin 32) (d : Fin 1024) :
    xin (F := Ideal) v (ix3 b k d) = v (ix3 b k d) := by
  unfold xin; pointwise

theorem bin_apply (v : FVec Ideal S4x32x32 .f32) (b : Fin 4) (n k : Fin 32) :
    bin (F := Ideal) v (ix3 b n k) = v (ix3 b k n) := by
  unfold bin; pointwise

theorem lin_apply (v : FVec Ideal S32x4x128 .bf16) (i : S32x4x128.Idx) : lin (F := Ideal) v i = v i := by
  unfold lin; pointwise

theorem wxin_apply (v : FVec Ideal S4x16x1024 .f32) (b : Fin 4) (k : Fin 16) (d : Fin 1024) :
    wxin (F := Ideal) v (ix3 b k d) = v (ix3 b k d) := by
  unfold wxin; pointwise

theorem wbin_apply (v : FVec Ideal S4x16x32 .f32) (b : Fin 4) (n : Fin 32) (k : Fin 16) :
    wbin (F := Ideal) v (ix3 b n k) = v (ix3 b k n) := by
  unfold wbin; pointwise

theorem wxcopy_eq (v : FVec Ideal S4x16x1024 .f32) : wxcopy (F := Ideal) v = v := by
  unfold wxcopy; pointwise
theorem wbcopy_eq (v : FVec Ideal S4x16x32 .f32) : wbcopy (F := Ideal) v = v := by
  unfold wbcopy; pointwise
theorem hst_eq (h : FVec Ideal S4x32x1024 .bf16) : hst h = h := by
  unfold hst; pointwise
theorem hzero_apply (i : S4x32x1024.Idx) : hzero (F := Ideal) i = (0 : EReal) := by
  unfold hzero; pointwise
theorem yrecv_ysent (y : FVec Ideal S4x32x1024 .f32) : yrecv (F := Ideal) (ysent y) = y := by
  unfold yrecv ysent; funext i; pointwise

theorem wstep_apply (a : FVec Ideal S1x32x1024 .bf16) (x : FVec Ideal S4x16x1024 .bf16) (w : FVec Ideal S4x32x16 .bf16) (k : Fin 16)
    (h : FVec Ideal S4x32x1024 .bf16) (b : Fin 4) (n : Fin 32) (d : Fin 1024) :
    wstep a x w k h (ix3 b n d) = h (ix3 b n d) * a (ix3 0 n d) + x (ix3 b k d) * w (ix3 b n k) := by
  unfold wstep; rw [hstep_apply]; pointwise

/-- The state after a piece's first `k` steps. -/
theorem hs_apply (a : FVec Ideal S1x32x1024 .bf16) (x : FVec Ideal S4x32x1024 .bf16) (w : FVec Ideal S4x32x32 .bf16)
    (h : FVec Ideal S4x32x1024 .bf16) (b : Fin 4) (n : Fin 32) (d : Fin 1024) : ∀ k,
    hs a x w h k (ix3 b n d) = Cert.Scan.run (a (ix3 0 n d))
      (fun t => x (ix3 b (Fin.ofNat 32 t) d) * w (ix3 b n (Fin.ofNat 32 t))) (h (ix3 b n d)) k
  | 0 => rfl
  | k + 1 => by
    have ih := hs_apply a x w h b n d k
    rw [hs, hstep_apply, ih, Cert.Scan.run]
    pointwise

/-! ## A row of the result -/

theorem yrow_apply (l : FVec Ideal S32x4x128 .bf16) (k : Fin 32) (h : FVec Ideal S4x32x1024 .bf16) (b : Fin 4) (z : Fin 1) (d : Fin 1024) :
    yrow l k h (ix3 b z d)
      = ∑ j : Fin 128, l (ix3 k b j) * h (ix3 (n0 := 4) (n1 := 32) ⟨j.val / 32, by omega⟩ ⟨j.val % 32, by omega⟩ d) := by
  unfold yrow; pointwise

theorem rows_apply (y : Fin 32 → FVec Ideal S4x1x1024 .f32) (b : Fin 4) (k : Fin 32) (d : Fin 1024) :
    rows y (ix3 b k d) = y k (ix3 b 0 d) := by
  unfold rows
  refine concatenate_ofFn_unit_apply (t := S4x32x1024) (s₁ := S4x1x1024) 1 y concatenates_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x1x1024_S4x32x1024_d1 rfl rfl (ix3 b k d) k rfl (ix3 b 0 d) fun e he => ?_
  fin_cases e
  · rfl
  · exact absurd rfl he
  · rfl

/-! ## What the loads read -/

theorem read_x (f : FVec Ideal S4x1024x1024 .f32) (h : ℕ) (p : Fin 16) (b : Fin 4) (k : Fin 32) (d : Fin 1024) (r : Fin 1024)
    (hr : r.val = row h p + k.val) : mX.view.readAt (Elt Ideal) (rX h p).toLoadRect f (ix3 b k d) = f (ix3 b r d) :=
  congrArg f (funext fun a => Fin.ext (by
    fin_cases a
    · exact (Nat.zero_add _).trans (Nat.one_mul _)
    · exact ((congrArg (row h p + ·) (Nat.one_mul _))).trans hr.symm
    · exact (Nat.zero_add _).trans (Nat.one_mul _)))

theorem read_y (f : YBuf Ideal) (h : ℕ) (p : Fin 16) (b : Fin 4) (k : Fin 32) (d : Fin 1024) (r : Fin 1024)
    (hr : r.val = row h p + k.val) : yat f h p (ix3 b k d) = f (ix3 b r d) :=
  congrArg f (funext fun a => Fin.ext (by
    fin_cases a
    · exact (Nat.zero_add _).trans (Nat.one_mul _)
    · exact ((congrArg (row h p + ·) (Nat.one_mul _))).trans hr.symm
    · exact (Nat.zero_add _).trans (Nat.one_mul _)))

theorem read_b (f : FVec Ideal S4x1024x32 .f32) (h : ℕ) (p : Fin 16) (b : Fin 4) (k n : Fin 32) (r : Fin 1024)
    (hr : r.val = row h p + k.val) : mB.view.readAt (Elt Ideal) (rB h p).toLoadRect f (ix3 b k n) = f (ix3 b r n) :=
  congrArg f (funext fun a => Fin.ext (by
    fin_cases a
    · exact (Nat.zero_add _).trans (Nat.one_mul _)
    · exact ((congrArg (row h p + ·) (Nat.one_mul _))).trans hr.symm
    · exact (Nat.zero_add _).trans (Nat.one_mul _)))

theorem read_l (f : FVec Ideal S1024x4x128 .bf16) (h : ℕ) (p : Fin 16) (k : Fin 32) (b : Fin 4) (j : Fin 128) (r : Fin 1024)
    (hr : r.val = row h p + k.val) : mL.view.readAt (Elt Ideal) (rL h p).toLoadRect f (ix3 k b j) = f (ix3 r b j) :=
  congrArg f (funext fun a => Fin.ext (by
    fin_cases a
    · exact ((congrArg (row h p + ·) (Nat.one_mul _))).trans hr.symm
    · exact (Nat.zero_add _).trans (Nat.one_mul _)
    · exact (Nat.zero_add _).trans (Nat.one_mul _)))

theorem read_a (f : FVec Ideal S32x1024 .bf16) : mA.view.readAt (Elt Ideal) rA.toLoadRect f = f :=
  Memref.readAt_unit_zero (Elt Ideal) cc0_stg1_0 zero2 _ f

/-- The rows before row 512 of a block. -/
theorem read_wx (f : FVec Ideal S4x1024x1024 .f32) (b : Fin 4) (k : Fin 16) (d : Fin 1024) (r : Fin 1024)
    (hr : r.val = 496 + k.val) : mX.view.readAt (Elt Ideal) rXw.toLoadRect f (ix3 b k d) = f (ix3 b r d) :=
  congrArg f (funext fun a => Fin.ext (by
    fin_cases a
    · exact (Nat.zero_add _).trans (Nat.one_mul _)
    · exact ((congrArg (496 + ·) (Nat.one_mul _))).trans hr.symm
    · exact (Nat.zero_add _).trans (Nat.one_mul _)))
theorem read_wb (f : FVec Ideal S4x1024x32 .f32) (b : Fin 4) (k : Fin 16) (n : Fin 32) (r : Fin 1024)
    (hr : r.val = 496 + k.val) : mB.view.readAt (Elt Ideal) rBw.toLoadRect f (ix3 b k n) = f (ix3 b r n) :=
  congrArg f (funext fun a => Fin.ext (by
    fin_cases a
    · exact (Nat.zero_add _).trans (Nat.one_mul _)
    · exact ((congrArg (496 + ·) (Nat.one_mul _))).trans hr.symm
    · exact (Nat.zero_add _).trans (Nat.one_mul _)))

/-- A block's last sixteen rows. -/
theorem read_ex (f : FVec Ideal S4x1024x1024 .f32) (b : Fin 4) (k : Fin 16) (d : Fin 1024) (r : Fin 1024)
    (hr : r.val = 1008 + k.val) : sXe.view.read (Elt Ideal) f (ix3 b k d) = f (ix3 b r d) :=
  congrArg f (funext fun a => Fin.ext (by
    fin_cases a
    · exact (Nat.zero_add _).trans (Nat.one_mul _)
    · exact ((congrArg (1008 + ·) (Nat.one_mul _))).trans hr.symm
    · exact (Nat.zero_add _).trans (Nat.one_mul _)))
theorem read_eb (f : FVec Ideal S4x1024x32 .f32) (b : Fin 4) (k : Fin 16) (n : Fin 32) (r : Fin 1024)
    (hr : r.val = 1008 + k.val) : sBe.view.read (Elt Ideal) f (ix3 b k n) = f (ix3 b r n) :=
  congrArg f (funext fun a => Fin.ext (by
    fin_cases a
    · exact (Nat.zero_add _).trans (Nat.one_mul _)
    · exact ((congrArg (1008 + ·) (Nat.one_mul _))).trans hr.symm
    · exact (Nat.zero_add _).trans (Nat.one_mul _)))

end Cert.KernelIdeal.Scan

end
-- ==== Proof.Ideal.Value.lean ====
/-
What the kernel computes, on extended reals: if the devices' operands are the blocks of `X`, the transposed exponential of
`A`, the blocks of `B`, and the blocks of `C` spread over a diagonal, then the devices' results are the blocks of
`Cert.Scan.spec X A B C`.

Device `c` scans quarter `qt c` of the sequence. Its state before piece `p` is the state of that quarter's window after
`16 + 32 * p` rows, the sixteen being the warm-up's; on the first device the warm-up is left out, and the window's first
sixteen rows are zero.
-/
module

public import proofs.«01_k».proof.Proof.Ideal.Whole
public import proofs.«01_k».proof.Proof.Ideal.Elems

@[expose] public section

noncomputable section

namespace Cert.KernelIdeal.Scan

open Cert.KernelIdeal Cert.KernelIdeal.Gen
open Idealize.ShloMosaic Idealize.ShloMosaic.TcCoe
open Cert.Scan (win inp st spec run_add run_congr run_zero win_eq win_low)

/-- The operands are the blocks of the whole arrays. -/
structure Holds (I : Ins Ideal) (X : (⟨3, ![4, 2048, 1024]⟩ : Shape).Idx → EReal) (A : (⟨2, ![1024, 32]⟩ : Shape).Idx → EReal)
    (B C : (⟨3, ![4, 2048, 32]⟩ : Shape).Idx → EReal) : Prop where
  x : ∀ (c : Dev nD) (b : Fin 4) (r d : Fin 1024) (R : Fin 2048), R.val = 1024 * (c.val / 2) + r.val →
    (I.x c : FVec Ideal S4x1024x1024 .f32) (ix3 b r d) = X (ix3 b R d)
  a : ∀ (c : Dev nD) (n : Fin 32) (d : Fin 1024), (I.a c : FVec Ideal S32x1024 .bf16) (ix2 n d) = Ideal.exp (A (ix2 d n))
  b : ∀ (c : Dev nD) (b : Fin 4) (r : Fin 1024) (n : Fin 32) (R : Fin 2048), R.val = 1024 * (c.val / 2) + r.val →
    (I.b c : FVec Ideal S4x1024x32 .f32) (ix3 b r n) = B (ix3 b R n)
  l : ∀ (c : Dev nD) (r : Fin 1024) (b e : Fin 4) (n : Fin 32) (j : Fin 128) (R : Fin 2048), R.val = 1024 * (c.val / 2) + r.val →
    j.val = 32 * e.val + n.val → (I.l c : FVec Ideal S1024x4x128 .bf16) (ix3 r b j) = if e = b then C (ix3 b R n) else 0

variable {I : Ins Ideal} {X : (⟨3, ![4, 2048, 1024]⟩ : Shape).Idx → EReal} {A : (⟨2, ![1024, 32]⟩ : Shape).Idx → EReal}
  {B C : (⟨3, ![4, 2048, 32]⟩ : Shape).Idx → EReal}

/-- The quarter of the sequence that device `c` scans. -/
def qt (c : Dev nD) : ℕ := 2 * (c.val / 2) + c.val % 2

theorem dev_lt (c : Dev nD) : c.val < 4 := c.isLt
theorem qt_lt (c : Dev nD) : qt c < 4 := by have := dev_lt c; unfold qt; omega

theorem dec_apply (H : Holds I X A B C) (c : Dev nD) (z : Fin 1) (n : Fin 32) (d : Fin 1024) :
    dec I c (ix3 z n d) = Ideal.exp (A (ix2 d n)) := by
  unfold dec; rw [read_a, decay_apply]; exact H.a c n d

/-! ## The inputs, as rows of the window -/

theorem px_apply (H : Holds I X A B C) (c : Dev nD) (p : Fin 16) (b : Fin 4) (k : Fin 32) (d : Fin 1024) :
    px I c p (ix3 b k d) = win (fun r => X (ix3 b r d)) (qt c) (16 + 32 * p.val + k.val) := by
  have hr := row_le c.val p
  have hc := dev_lt c
  have hp := p.isLt
  have hk := k.isLt
  have e : row c.val p = 512 * (c.val % 2) + 32 * p.val := rfl
  unfold px
  rw [xin_apply, read_x _ _ _ _ _ _ ⟨row c.val p + k.val, by omega⟩ rfl,
    H.x c b _ d ⟨1024 * (c.val / 2) + (row c.val p + k.val), by omega⟩ rfl]
  refine (win_eq (fun r => X (ix3 b r d)) _ ?_).symm
  unfold qt; dsimp only; omega

theorem pb_apply (H : Holds I X A B C) (c : Dev nD) (p : Fin 16) (b : Fin 4) (n k : Fin 32) :
    pb I c p (ix3 b n k) = win (fun r => B (ix3 b r n)) (qt c) (16 + 32 * p.val + k.val) := by
  have hr := row_le c.val p
  have hc := dev_lt c
  have hp := p.isLt
  have hk := k.isLt
  have e : row c.val p = 512 * (c.val % 2) + 32 * p.val := rfl
  unfold pb
  rw [bin_apply, read_b _ _ _ _ _ _ ⟨row c.val p + k.val, by omega⟩ rfl,
    H.b c b _ n ⟨1024 * (c.val / 2) + (row c.val p + k.val), by omega⟩ rfl]
  refine (win_eq (fun r => B (ix3 b r n)) _ ?_).symm
  unfold qt; dsimp only; omega

theorem pl_apply (H : Holds I X A B C) (c : Dev nD) (p : Fin 16) (k : Fin 32) (b e : Fin 4) (n : Fin 32) (j : Fin 128)
    (hj : j.val = 32 * e.val + n.val) (R : Fin 2048) (hR : R.val = 512 * qt c + 32 * p.val + k.val) :
    pl I c p (ix3 k b j) = if e = b then C (ix3 b R n) else 0 := by
  have hr := row_le c.val p
  have hk := k.isLt
  have e' : row c.val p = 512 * (c.val % 2) + 32 * p.val := rfl
  unfold pl
  rw [lin_apply, read_l _ _ _ _ _ _ ⟨row c.val p + k.val, by omega⟩ rfl]
  exact H.l c _ b e n j R (by rw [hR]; unfold qt; dsimp only; omega) hj

/-! ## The warm-up -/

/-- Where there is a warm-up, it runs over the window's first sixteen rows. -/
theorem warmX_apply (H : Holds I X A B C) (c : Dev nD) (hw : ((!fst c) || snd c) = true) (b : Fin 4) (k : Fin 16) (d : Fin 1024) :
    (warmX I c : FVec Ideal S4x16x1024 .f32) (ix3 b k d) = win (fun r => X (ix3 b r d)) (qt c) k.val := by
  have hc := dev_lt c
  have hk := k.isLt
  unfold warmX
  cases hs : snd c
  · have h1 : c.val % 2 ≠ 1 := Nat.ne_of_beq_eq_false hs
    have h0 : fst c = false := by rw [hs, Bool.or_false] at hw; exact Bool.not_eq_true' _ ▸ hw
    have h2 : c.val / 2 ≠ 0 := Nat.ne_of_beq_eq_false h0
    have hx : (xn c).val = 2 * (1 - c.val / 2) + c.val % 2 := rfl
    refine (read_ex (I.x (xn c)) b k d ⟨1008 + k.val, by omega⟩ rfl).trans ?_
    rw [H.x (xn c) b _ d ⟨1024 * ((xn c).val / 2) + (1008 + k.val), by omega⟩ rfl]
    refine (win_eq (fun r => X (ix3 b r d)) _ ?_).symm
    unfold qt; dsimp only; omega
  · have h1 : c.val % 2 = 1 := Nat.eq_of_beq_eq_true hs
    refine (congrFun (wxcopy_eq _) _).trans ((read_wx (I.x c) b k d ⟨496 + k.val, by omega⟩ rfl).trans ?_)
    rw [H.x c b _ d ⟨1024 * (c.val / 2) + (496 + k.val), by omega⟩ rfl]
    refine (win_eq (fun r => X (ix3 b r d)) _ ?_).symm
    unfold qt; dsimp only; omega

theorem warmB_apply (H : Holds I X A B C) (c : Dev nD) (hw : ((!fst c) || snd c) = true) (b : Fin 4) (k : Fin 16) (n : Fin 32) :
    (warmB I c : FVec Ideal S4x16x32 .f32) (ix3 b k n) = win (fun r => B (ix3 b r n)) (qt c) k.val := by
  have hc := dev_lt c
  have hk := k.isLt
  unfold warmB
  cases hs : snd c
  · have h1 : c.val % 2 ≠ 1 := Nat.ne_of_beq_eq_false hs
    have h0 : fst c = false := by rw [hs, Bool.or_false] at hw; exact Bool.not_eq_true' _ ▸ hw
    have h2 : c.val / 2 ≠ 0 := Nat.ne_of_beq_eq_false h0
    have hx : (xn c).val = 2 * (1 - c.val / 2) + c.val % 2 := rfl
    refine (read_eb (I.b (xn c)) b k n ⟨1008 + k.val, by omega⟩ rfl).trans ?_
    rw [H.b (xn c) b _ n ⟨1024 * ((xn c).val / 2) + (1008 + k.val), by omega⟩ rfl]
    refine (win_eq (fun r => B (ix3 b r n)) _ ?_).symm
    unfold qt; dsimp only; omega
  · have h1 : c.val % 2 = 1 := Nat.eq_of_beq_eq_true hs
    refine (congrFun (wbcopy_eq _) _).trans ((read_wb (I.b c) b k n ⟨496 + k.val, by omega⟩ rfl).trans ?_)
    rw [H.b c b _ n ⟨1024 * (c.val / 2) + (496 + k.val), by omega⟩ rfl]
    refine (win_eq (fun r => B (ix3 b r n)) _ ?_).symm
    unfold qt; dsimp only; omega

theorem warmed_apply (H : Holds I X A B C) (c : Dev nD) (hw : ((!fst c) || snd c) = true) (b : Fin 4) (n : Fin 32) (d : Fin 1024) :
    ∀ k, k ≤ 16 → warmed I c k (ix3 b n d) = st X A B b n d (qt c) k
  | 0, _ => hzero_apply _
  | k + 1, hk => by
    have ih := warmed_apply H c hw b n d k (by omega)
    have e : (Fin.ofNat 16 k).val = k := Nat.mod_eq_of_lt (by omega)
    rw [warmed, hst_eq, wstep_apply, ih, wxin_apply, wbin_apply, dec_apply H, warmX_apply H c hw, warmB_apply H c hw, e]
    rfl

theorem state0_apply (H : Holds I X A B C) (c : Dev nD) (b : Fin 4) (n : Fin 32) (d : Fin 1024) :
    state0 I c (ix3 b n d) = st X A B b n d (qt c) 16 := by
  unfold state0
  cases hw : ((!fst c) || snd c)
  · have hc := dev_lt c
    rw [Bool.or_eq_false_iff] at hw
    have h1 : c.val % 2 ≠ 1 := Nat.ne_of_beq_eq_false hw.2
    have h0 : c.val / 2 = 0 := Nat.eq_of_beq_eq_true (by have := hw.1; unfold fst at this; revert this; cases Nat.beq (c.val / 2) 0 <;> simp)
    refine (hzero_apply _).trans (run_zero _ 16 fun t ht => ?_).symm
    rw [inp, win_low _ (by unfold qt; omega), zero_mul]
  · exact warmed_apply H c hw b n d 16 (Nat.le_refl _)

/-! ## The pieces -/

theorem hs_state (H : Holds I X A B C) (c : Dev nD) (p : Fin 16) (h : FVec Ideal S4x32x1024 .bf16) (b : Fin 4) (n : Fin 32) (d : Fin 1024)
    (hh : h (ix3 b n d) = st X A B b n d (qt c) (16 + 32 * p.val)) (k : ℕ) (hk : k ≤ 32) :
    hs (dec I c) (px I c p) (pb I c p) h k (ix3 b n d) = st X A B b n d (qt c) (16 + 32 * p.val + k) := by
  rw [hs_apply, hh, dec_apply H]
  refine Eq.trans ?_ (run_add _ _ _ _ _).symm
  refine run_congr _ _ _ fun t ht => ?_
  have e : (Fin.ofNat 32 t).val = t := Nat.mod_eq_of_lt (by omega)
  rw [px_apply H, pb_apply H, e]
  rfl

theorem state_apply (H : Holds I X A B C) (c : Dev nD) (b : Fin 4) (n : Fin 32) (d : Fin 1024) :
    ∀ p, p ≤ 16 → state I c p (ix3 b n d) = st X A B b n d (qt c) (16 + 32 * p)
  | 0, _ => state0_apply H c b n d
  | p + 1, hp => by
    have ih := state_apply H c b n d p (by omega)
    have e : (Fin.ofNat 16 p).val = p := Nat.mod_eq_of_lt (by omega)
    rw [state, hst_eq, hs_state H c (Fin.ofNat 16 p) _ b n d (by rw [e]; exact ih) 32 (Nat.le_refl _), e]
    exact congrArg _ (by omega)

/-- A sum over the packed axis against a diagonal leaves the diagonal's block. -/
theorem sum_diag (b : Fin 4) (f : Fin 32 → EReal) (g : Fin 4 → Fin 32 → EReal) (F : Fin 128 → EReal)
    (hF : ∀ (e : Fin 4) (n : Fin 32) (j : Fin 128), j.val = 32 * e.val + n.val → F j = (if e = b then f n else 0) * g e n) :
    ∑ j : Fin 128, F j = ∑ n : Fin 32, g b n * f n := by
  rw [← Equiv.sum_comp (finProdFinEquiv (m := 4) (n := 32)) F, Fintype.sum_prod_type, Finset.sum_eq_single b]
  · refine Finset.sum_congr rfl fun n _ => ?_
    rw [hF b n _ (by simp only [finProdFinEquiv_apply_val]; omega), if_pos rfl, mul_comm]
  · intro e _ he
    refine Finset.sum_eq_zero fun n _ => ?_
    rw [hF e n _ (by simp only [finProdFinEquiv_apply_val]; omega), if_neg he, zero_mul]
  · exact fun h => absurd (Finset.mem_univ _) h

/-- Piece `p` of device `c`'s half. -/
theorem own_apply (H : Holds I X A B C) (c : Dev nD) (p : Fin 16) (b : Fin 4) (k : Fin 32) (d : Fin 1024) (R : Fin 2048)
    (hR : R.val = 512 * qt c + 32 * p.val + k.val) : own I c p (ix3 b k d) = spec X A B C (ix3 b R d) := by
  have hp := p.isLt
  have hk := k.isLt
  unfold own yblk
  rw [rows_apply, yrow_apply]
  refine (sum_diag b (fun n => C (ix3 b R n)) (fun e n => st X A B e n d (qt c) (16 + 32 * p.val + (k.val + 1))) _
    fun e n j hj => ?_).trans ?_
  · have he : (⟨j.val / 32, by omega⟩ : Fin 4) = e := Fin.ext (by simp only; omega)
    have hn : (⟨j.val % 32, by omega⟩ : Fin 32) = n := Fin.ext (by simp only; omega)
    rw [pl_apply H c p k b e n j hj R hR, he, hn, hs_state H c p _ e n d (state_apply H c e n d p.val (by omega)) (k.val + 1) (by omega)]
  · refine Finset.sum_congr rfl fun n _ => ?_
    have h1 : R.val / 512 = qt c := by omega
    have h2 : R.val % 512 + 17 = 16 + 32 * p.val + (k.val + 1) := by omega
    show _ = st X A B b n d (R.val / 512) (R.val % 512 + 17) * C (ix3 b R n)
    rw [h1, h2]

/-! ## The results -/

theorem qt_yn (c : Dev nD) : qt (yn c) = 2 * (c.val / 2) + (c.val + 1) % 2 := by
  have hc := dev_lt c
  have hy : (yn c).val = 2 * (c.val / 2) + (1 - c.val % 2) := rfl
  unfold qt; omega

theorem out_eq (H : Holds I X A B C) (c : Dev nD) :
    out I c = fun i : S4x1024x1024.Idx => spec X A B C (ix3 (i 0)
      (⟨1024 * (c.val / 2) + (i 1).val, by have := dev_lt c; have h1 : (i 1).val < 1024 := (i 1).isLt; omega⟩ : Fin 2048) (i 2)) := by
  have hc := dev_lt c
  refine ext_pieces c.val (fun p => ?_) fun p => ?_
  · rw [out_mine I c p p.isLt]
    funext j
    obtain ⟨b, k, d, rfl⟩ : ∃ (b : Fin 4) (k : Fin 32) (d : Fin 1024), j = ix3 b k d := ⟨j 0, j 1, j 2, eq_ix3 j⟩
    have hp := p.isLt
    have hk := k.isLt
    have e : row c.val p = 512 * (c.val % 2) + 32 * p.val := rfl
    have hq : qt c = 2 * (c.val / 2) + c.val % 2 := rfl
    rw [read_y _ _ _ _ _ _ ⟨row c.val p + k.val, by omega⟩ rfl]
    exact own_apply H c p b k d _ (by show 1024 * (c.val / 2) + (row c.val p + k.val) = _; omega)
  · rw [out_theirs I c p p.isLt]
    unfold wire
    rw [yrecv_ysent]
    funext j
    obtain ⟨b, k, d, rfl⟩ : ∃ (b : Fin 4) (k : Fin 32) (d : Fin 1024), j = ix3 b k d := ⟨j 0, j 1, j 2, eq_ix3 j⟩
    have hp := p.isLt
    have hk := k.isLt
    have e : row (c.val + 1) p = 512 * ((c.val + 1) % 2) + 32 * p.val := rfl
    have hq := qt_yn c
    rw [read_y _ _ _ _ _ _ ⟨row (c.val + 1) p + k.val, by omega⟩ rfl]
    exact own_apply H (yn c) p b k d _ (by show 1024 * (c.val / 2) + (row (c.val + 1) p + k.val) = _; omega)

end Cert.KernelIdeal.Scan

end
-- ==== Proof.Ideal.Operands.lean ====
/-
The operands the host hands the kernel, on extended reals: its blocks of `x` and `B` as launched, the transposed
exponential of `A`, and its block of `C` on the diagonal of a 4 × 4 arrangement, zero off it.
-/
module

public import proofs.«01_k».proof.Proof.Ideal.Launch
public import proofs.«01_k».proof.Proof.Ideal.Value

@[expose] public section

noncomputable section

namespace Cert.KernelIdeal.Scan

open Cert.KernelIdeal Cert.KernelIdeal.Gen
open Idealize.ShloMosaic Idealize.ShloMosaic.TcCoe

/-- The 4 × 4 unit matrix as the host builds it. -/
def eye : S4x4.Idx → EReal :=
  uitofp (F := Ideal) .f32 (cmpi .eq (addi (iotaInDim S4x4 32 0) (broadcastInDim S4x4 ![] bcast_S_S4x4 (constantI S_ 32 0#32)))
    (iotaInDim S4x4 32 1))

theorem eye_apply (b e : Fin 4) : eye (ix2 b e) = if e = b then (1 : EReal) else 0 := by
  unfold eye
  pointwise
  have k : ∀ b e : Fin 4, IntOp.cmpi .eq (IntOp.addi (BitVec.ofNat 32 b.val) 0#32) (BitVec.ofNat 32 e.val)
      = if e = b then 1#1 else 0#1 := by decide
  rw [k]
  split
  · show (((1#1 : BitVec 1).toNat : ℝ) : EReal) = 1
    simp
  · show (((0#1 : BitVec 1).toNat : ℝ) : EReal) = 0
    simp

/-- `C` on the diagonal. -/
def diag (C : S4x1024x32.Idx → EReal) : S1024x4x128.Idx → EReal :=
  shapeCast S1024x4x128 (mulf (F := Ideal) (φ := .f32)
    (broadcastInDim S1024x4x4x32 ![0, 1, 2, 3] bcast_S1x4x4x1_S1024x4x4x32_0_1_2_3 (broadcastInDim S1x4x4x1 ![1, 2] bcast_S4x4_S1x4x4x1_1_2 eye))
    (broadcastInDim S1024x4x4x32 ![0, 1, 2, 3] bcast_S1024x4x1x32_S1024x4x4x32_0_1_2_3
      (broadcastInDim S1024x4x1x32 ![0, 1, 3] bcast_S1024x4x32_S1024x4x1x32_0_1_3
        (transpose S1024x4x32 [1, 0, 2] C transposes_S4x1024x32_S1024x4x32_1_0_2)))) shapeCasts_S1024x4x4x32_S1024x4x128

theorem diag_apply (C : S4x1024x32.Idx → EReal) (r : Fin 1024) (b e : Fin 4) (n : Fin 32) (j : Fin 128) (hj : j.val = 32 * e.val + n.val) :
    diag C (ix3 r b j) = if e = b then C (ix3 b r n) else 0 := by
  have k : diag C (ix3 r b j) = eye (ix2 b e) * C (ix3 b r n) := by
    unfold diag
    pointwise
    have := n.isLt
    rw [show (⟨j.val / 32, _⟩ : Fin 4) = e from Fin.ext (by show j.val / 32 = e.val; omega),
      show (⟨j.val % 32, _⟩ : Fin 32) = n from Fin.ext (by show j.val % 32 = n.val; omega)]
  rw [k, eye_apply]
  split
  · exact one_mul _
  · exact zero_mul _

variable (m : (ℓ : Loc nD τ sig) → Buf (Elt Ideal) ℓ) (c : Dev nD)

theorem ins_a (A : S1024x32.Idx → EReal) (hA : m ((c.tc : Thread nD τ).loc main_arg1) = A) (n : Fin 32) (d : Fin 1024) :
    ((ins m).a c : S32x1024.Idx → EReal) (ix2 n d) = Ideal.exp (A (ix2 d n)) := by
  have e : ((ins m).a c : S32x1024.Idx → EReal) = truncf (F := Ideal) .bf16 (transpose S32x1024 [1, 0] (Host.exp (F := Ideal) (φ := .f32) A)
      transposes_S1024x32_S32x1024_1_0) bitsLt_bf16_f32 := by
    subst hA
    unfold ins V₁
    after_results
    rfl
  rw [e]
  pointwise

theorem ins_l (C : S4x1024x32.Idx → EReal) (hC : m ((c.tc : Thread nD τ).loc main_arg3) = C) :
    ((ins m).l c : S1024x4x128.Idx → EReal) = diag C := by
  subst hC
  unfold ins V₁
  after_results
  rfl

/-! ## Blocks -/

/-- Device `c` holds rows `1024 * (c / 2)` and on of an array cut along its second axis. -/
theorem block_apply {W : ℕ} (v : (⟨3, ![4, 2048, W]⟩ : Shape).Idx → EReal) (h) (b : Fin 4) (r : Fin 1024) (d : Fin W) (R : Fin 2048)
    (hR : R.val = 1024 * (c.val / 2) + r.val) :
    Layout.blockN ⟨3, ![4, 1024, W]⟩ ⟨3, ![4, 2048, W]⟩ (Layout.meshBlock [2, 2] ![[], [0], []] c) v h (ix3 b r d) = v (ix3 b R d) := by
  rw [Layout.blockN_apply]
  refine congrArg v (funext fun a => Fin.ext ?_)
  have k : Layout.meshLin [2, 2] c.val [0] = c.val / 2 :=
    (by decide : ∀ c : Fin 4, Layout.meshLin [2, 2] c.val [0] = c.val / 2) c
  match a with
  | ⟨0, _⟩ => exact (by show 0 * 4 + b.val = b.val; omega)
  | ⟨1, _⟩ =>
    show Layout.meshLin [2, 2] c.val [0] * 1024 + r.val = R.val
    omega
  | ⟨2, _⟩ => exact (by show 0 * W + d.val = d.val; omega)

/-- The operands are the blocks of the whole arrays. -/
theorem holds {X : (⟨3, ![4, 2048, 1024]⟩ : Shape).Idx → EReal} {A : (⟨2, ![1024, 32]⟩ : Shape).Idx → EReal}
    {B C : (⟨3, ![4, 2048, 32]⟩ : Shape).Idx → EReal}
    (h : ∀ c : Dev nD,
      m ((c.tc : Thread nD τ).loc main_arg0)
        = Layout.blockN ⟨3, ![4, 1024, 1024]⟩ ⟨3, ![4, 2048, 1024]⟩ (Layout.meshBlock [2, 2] ![[], [0], []] c) X
      ∧ m ((c.tc : Thread nD τ).loc main_arg1) = A
      ∧ m ((c.tc : Thread nD τ).loc main_arg2)
        = Layout.blockN ⟨3, ![4, 1024, 32]⟩ ⟨3, ![4, 2048, 32]⟩ (Layout.meshBlock [2, 2] ![[], [0], []] c) B
      ∧ m ((c.tc : Thread nD τ).loc main_arg3)
        = Layout.blockN ⟨3, ![4, 1024, 32]⟩ ⟨3, ![4, 2048, 32]⟩ (Layout.meshBlock [2, 2] ![[], [0], []] c) C) :
    Holds (ins m) X A B C where
  x c b r d R hR := (congrFun ((V_main_arg0 m c).trans (h c).1) _).trans (block_apply c X _ b r d R hR)
  a c n d := ins_a m c A (h c).2.1 n d
  b c b r n R hR := (congrFun ((V_main_arg2 m c).trans (h c).2.2.1) _).trans (block_apply c B _ b r n R hR)
  l c r b e n j R hR hj := by
    rw [ins_l m c _ (h c).2.2.2, diag_apply _ r b e n j hj, block_apply c C _ b r n R hR]

end Cert.KernelIdeal.Scan

end
-- ==== Proof.Value.Trip.lean ====
/-
One trip of the reference's loop read at an index: trip `t` moves every state on by row `t` of the windows and writes row
`t` of the results.
-/
module

public import proofs.«01_k».proof.Proof.Gen.ReferenceIdeal.Run
public import Idealize.ShloMosaic.Lib.Pointwise

@[expose] public section

noncomputable section

namespace Cert.ReferenceIdeal.Scan

open Cert.ReferenceIdeal Cert.ReferenceIdeal.Gen Cert.ReferenceIdeal.Value
open Idealize.ShloMosaic Idealize.ShloMosaic.TcCoe Idealize.ShloMosaic.StableHlo

/-- Where a trip's slices start: row `t` of the third dimension. -/
def at3 (t : ℕ) : Fin 4 → ℤ := ![0, 0, (t : ℤ), 0]

/-- The row's number as the program keeps it: a 32-bit word, corrected if it were negative. -/
theorem row_toInt (t : ℕ) (ht : t < 528) :
    (Scalar.select (IntOp.cmpi .slt (BitVec.ofNat 32 t) 0#32) (IntOp.addi (BitVec.ofNat 32 t) 528#32) (BitVec.ofNat 32 t)).toInt = (t : ℤ) := by
  have h : ∀ k : Fin 528, (Scalar.select (IntOp.cmpi .slt (BitVec.ofNat 32 k.val) 0#32) (IntOp.addi (BitVec.ofNat 32 k.val) 528#32)
      (BitVec.ofNat 32 k.val)).toInt = (k.val : ℤ) := by decide +kernel
  exact h ⟨t, ht⟩

theorem slice_row {W : ℕ} (v : (⟨4, ![4, 4, 528, W]⟩ : Shape).Idx → EReal) (t : ℕ) (ht : t < 528)
    (h : (⟨4, ![4, 4, 528, W]⟩ : Shape).Slices (fun _ => 0) ⟨4, ![4, 4, 1, W]⟩) (b q : Fin 4) (z : Fin 1) (j : Fin W) :
    Host.dynamicSlice ⟨4, ![4, 4, 1, W]⟩ v (at3 t) h (ix4 b q z j) = v (ix4 b q ⟨t, ht⟩ j) := by
  have e (a : Fin 4) (k : ℕ) (hk : at3 t a = k) (hle : k + (![4, 4, 1, W] : Fin 4 → ℕ) a ≤ (![4, 4, 528, W] : Fin 4 → ℕ) a) :
      Host.clampedStart ⟨4, ![4, 4, 528, W]⟩ ⟨4, ![4, 4, 1, W]⟩ h.1 (at3 t) a = k := Host.clampedStart_of_le _ _ _ _ hk hle
  unfold Host.dynamicSlice
  refine congrArg v (funext fun a => Fin.ext ?_)
  match a with
  | ⟨0, _⟩ => exact (congrArg (· + b.val) (e 0 0 rfl (by simp))).trans (Nat.zero_add _)
  | ⟨1, _⟩ => exact (congrArg (· + q.val) (e 1 0 rfl (by simp))).trans (Nat.zero_add _)
  | ⟨2, _⟩ => exact (congrArg (· + z.val) (e 2 t rfl (by simp; omega))).trans (by have := z.isLt; show t + z.val = t; omega)
  | ⟨3, _⟩ => exact (congrArg (· + j.val) (e 3 0 rfl (by simp))).trans (Nat.zero_add _)

theorem update_row (v : (⟨4, ![4, 4, 528, 1024]⟩ : Shape).Idx → EReal) (w : (⟨4, ![4, 4, 1, 1024]⟩ : Shape).Idx → EReal) (t : ℕ) (ht : t < 528)
    (h : (⟨4, ![4, 4, 528, 1024]⟩ : Shape).Slices (fun _ => 0) ⟨4, ![4, 4, 1, 1024]⟩) (b q : Fin 4) (r : Fin 528) (d : Fin 1024) :
    Host.dynamicUpdateSlice v w (at3 t) h (ix4 b q r d) = if r.val = t then w (ix4 b q 0 d) else v (ix4 b q r d) := by
  have e (a : Fin 4) (k : ℕ) (hk : at3 t a = k) (hle : k + (![4, 4, 1, 1024] : Fin 4 → ℕ) a ≤ (![4, 4, 528, 1024] : Fin 4 → ℕ) a) :
      Host.clampedStart ⟨4, ![4, 4, 528, 1024]⟩ ⟨4, ![4, 4, 1, 1024]⟩ h.1 (at3 t) a = k := Host.clampedStart_of_le _ _ _ _ hk hle
  have e0 := e 0 0 rfl (by simp)
  have e1 := e 1 0 rfl (by simp)
  have e2 := e 2 t rfl (by simp; omega)
  have e3 := e 3 0 rfl (by simp)
  rw [Host.dynamicUpdateSlice_apply]
  by_cases hr : r.val = t
  · rw [if_pos hr, dif_pos]
    · refine congrArg w (funext fun a => Fin.ext ?_)
      match a with
      | ⟨0, _⟩ => exact (congrArg (b.val - ·) e0).trans (Nat.sub_zero _)
      | ⟨1, _⟩ => exact (congrArg (q.val - ·) e1).trans (Nat.sub_zero _)
      | ⟨2, _⟩ => exact (congrArg (r.val - ·) e2).trans (by show r.val - t = 0; omega)
      | ⟨3, _⟩ => exact (congrArg (d.val - ·) e3).trans (Nat.sub_zero _)
    · intro a
      match a with
      | ⟨0, _⟩ => rw [show (⟨0, _⟩ : Fin 4) = 0 from rfl, e0]; exact ⟨Nat.zero_le _, by show b.val < 0 + 4; omega⟩
      | ⟨1, _⟩ => rw [show (⟨1, _⟩ : Fin 4) = 1 from rfl, e1]; exact ⟨Nat.zero_le _, by show q.val < 0 + 4; omega⟩
      | ⟨2, _⟩ => rw [show (⟨2, _⟩ : Fin 4) = 2 from rfl, e2]; exact ⟨by show t ≤ r.val; omega, by show r.val < t + 1; omega⟩
      | ⟨3, _⟩ => rw [show (⟨3, _⟩ : Fin 4) = 3 from rfl, e3]; exact ⟨Nat.zero_le _, by show d.val < 0 + 1024; omega⟩
  · rw [if_neg hr, dif_neg]
    intro hin
    have h2 := hin 2
    rw [e2] at h2
    have h3 : t ≤ r.val ∧ r.val < t + 1 := h2
    omega

/-! ## The carried arrays -/

variable (V : Valuation τ sig (Elt Ideal))

abbrev decays : S1x1x1024x32.Idx → EReal := V (Proc.devRef .tc main_v34_0)
abbrev xs : S4x4x528x1024.Idx → EReal := V (Proc.devRef .tc main_v34_1)
abbrev bs : S4x4x528x32.Idx → EReal := V (Proc.devRef .tc main_v34_2)
abbrev cs : S4x4x528x32.Idx → EReal := V (Proc.devRef .tc main_v34_3)
abbrev hs : S4x4x1024x32.Idx → EReal := V (Proc.devRef .tc main_v34_6)
abbrev ys : S4x4x528x1024.Idx → EReal := V (Proc.devRef .tc main_v34_7)

/-- The trip's number, as the loop carries it. -/
abbrev num : S_.Idx → BitVec 32 := V (Proc.devRef .tc main_v34_5)

def AtRow (t : ℕ) : Prop := num V = fun _ => BitVec.ofNat 32 t

/-- Where the trip's slices of the windows start, as the program spells it. -/
def starts (u : S_.Idx → BitVec 32) (w : BitVec 32) : Fin 4 → ℤ := fun k =>
  ((![select (cmpi .slt (constantI S_ 32 0#32) (constantI S_ 32 0#32)) (addi (constantI S_ 32 0#32) (constantI S_ 32 4#32))
        (constantI S_ 32 0#32),
      select (cmpi .slt (constantI S_ 32 0#32) (constantI S_ 32 0#32)) (addi (constantI S_ 32 0#32) (constantI S_ 32 4#32))
        (constantI S_ 32 0#32),
      select (cmpi .slt u (constantI S_ 32 0#32)) (addi u (constantI S_ 32 528#32)) u,
      select (cmpi .slt (constantI S_ 32 0#32) (constantI S_ 32 0#32)) (addi (constantI S_ 32 0#32) (constantI S_ 32 w))
        (constantI S_ 32 0#32)] : Fin 4 → S_.Idx → BitVec 32) k (Shape.Idx.first h_S_)).toInt

/-- Where the trip's row is written. -/
def ystarts (u : S_.Idx → BitVec 32) : Fin 4 → ℤ := fun k =>
  ((![constantI S_ 32 0#32, constantI S_ 32 0#32, select (cmpi .slt u (constantI S_ 32 0#32)) (addi u (constantI S_ 32 528#32)) u,
      constantI S_ 32 0#32] : Fin 4 → S_.Idx → BitVec 32) k (Shape.Idx.first h_S_)).toInt

theorem starts_eq (t : ℕ) (ht : t < 528) (h : AtRow V t) (w : BitVec 32) : starts (num V) w = at3 t := by
  unfold starts; rw [h]
  funext k
  match k with
  | ⟨0, _⟩ => rfl
  | ⟨1, _⟩ => rfl
  | ⟨2, _⟩ => exact row_toInt t ht
  | ⟨3, _⟩ => rfl

theorem ystarts_eq (t : ℕ) (ht : t < 528) (h : AtRow V t) : ystarts (num V) = at3 t := by
  unfold ystarts; rw [h]
  funext k
  match k with
  | ⟨0, _⟩ => rfl
  | ⟨1, _⟩ => rfl
  | ⟨2, _⟩ => exact row_toInt t ht
  | ⟨3, _⟩ => rfl

/-! ## One trip -/

/-- The states after the trip. -/
def next : S4x4x1024x32.Idx → EReal := res_main_while0b_v75 V

/-- The slices of the windows the trip reads. -/
def xrow (u : S_.Idx → BitVec 32) : S4x4x1x1024.Idx → EReal :=
  Host.dynamicSlice S4x4x1x1024 (xs V) (starts u 1024#32) sliceFits_S4x4x528x1024_S4x4x1x1024
def brow (u : S_.Idx → BitVec 32) : S4x4x1x32.Idx → EReal :=
  Host.dynamicSlice S4x4x1x32 (bs V) (starts u 32#32) sliceFits_S4x4x528x32_S4x4x1x32
def crow (u : S_.Idx → BitVec 32) : S4x4x1x32.Idx → EReal :=
  Host.dynamicSlice S4x4x1x32 (cs V) (starts u 32#32) sliceFits_S4x4x528x32_S4x4x1x32

theorem next_eq : next V = addf (F := Ideal) (φ := .f32)
    (mulf (hs V) (broadcastInDim S4x4x1024x32 ![0, 1, 2, 3] bcast_S1x1x1024x32_S4x4x1024x32_0_1_2_3 (decays V)))
    (mulf (broadcastInDim S4x4x1024x32 ![0, 1, 2, 3] bcast_S4x4x1024x1_S4x4x1024x32_0_1_2_3
        (broadcastInDim S4x4x1024x1 ![0, 1, 2] bcast_S4x4x1024_S4x4x1024x1_0_1_2
          (shapeCast S4x4x1024 (xrow V (num V)) shapeCasts_S4x4x1x1024_S4x4x1024)))
      (broadcastInDim S4x4x1024x32 ![0, 1, 2, 3] bcast_S4x4x1x32_S4x4x1024x32_0_1_2_3
        (broadcastInDim S4x4x1x32 ![0, 1, 3] bcast_S4x4x32_S4x4x1x32_0_1_3
          (shapeCast S4x4x32 (brow V (num V)) shapeCasts_S4x4x1x32_S4x4x32)))) := rfl

theorem next_apply (t : ℕ) (ht : t < 528) (h : AtRow V t) (b q : Fin 4) (d : Fin 1024) (n : Fin 32) :
    next V (ix4 b q d n)
      = hs V (ix4 b q d n) * decays V (ix4 0 0 d n) + xs V (ix4 b q ⟨t, ht⟩ d) * bs V (ix4 b q ⟨t, ht⟩ n) := by
  have hx : ∀ z, xrow V (num V) (ix4 b q z d) = xs V (ix4 b q ⟨t, ht⟩ d) := fun z => by
    unfold xrow; rw [starts_eq V t ht h, slice_row _ t ht]
  have hb : ∀ z, brow V (num V) (ix4 b q z n) = bs V (ix4 b q ⟨t, ht⟩ n) := fun z => by
    unfold brow; rw [starts_eq V t ht h, slice_row _ t ht]
  rw [next_eq]
  pointwise
  rw [hx, hb]

theorem step6 : hs (STEP V) = next V := STEP_main_v34_6 V

/-- The row of the results the trip writes. -/
def yrow : S4x4x1024.Idx → EReal :=
  Host.reduceAdd (F := Ideal) (φ := .f32) (mulf (next V) (broadcastInDim S4x4x1024x32 ![0, 1, 2, 3] bcast_S4x4x1x32_S4x4x1024x32_0_1_2_3
    (broadcastInDim S4x4x1x32 ![0, 1, 3] bcast_S4x4x32_S4x4x1x32_0_1_3
      (shapeCast S4x4x32 (crow V (num V)) shapeCasts_S4x4x1x32_S4x4x32))))
    (constant S_ .f32 0x00000000#32) reducesTo_S4x4x1024x32_S4x4x1024_d3 h_S_

theorem yrow_apply (t : ℕ) (ht : t < 528) (h : AtRow V t) (b q : Fin 4) (d : Fin 1024) :
    yrow V (ix3 b q d) = ∑ n : Fin 32, next V (ix4 b q d n) * cs V (ix4 b q ⟨t, ht⟩ n) := by
  have hc : ∀ z n, crow V (num V) (ix4 b q z n) = cs V (ix4 b q ⟨t, ht⟩ n) := fun z n => by
    unfold crow; rw [starts_eq V t ht h, slice_row _ t ht]
  unfold yrow
  pointwise
  simp only [hc]

theorem step7 : ys (STEP V) = Host.dynamicUpdateSlice (ys V)
    (broadcastInDim S4x4x1x1024 ![0, 1, 3] bcast_S4x4x1024_S4x4x1x1024_0_1_3 (yrow V))
    (ystarts (num V)) updateFits_S4x4x528x1024_S4x4x1x1024 := STEP_main_v34_7 V

theorem step7_apply (t : ℕ) (ht : t < 528) (h : AtRow V t) (b q : Fin 4) (r : Fin 528) (d : Fin 1024) :
    ys (STEP V) (ix4 b q r d)
      = if r.val = t then ∑ n : Fin 32, next V (ix4 b q d n) * cs V (ix4 b q ⟨t, ht⟩ n) else ys V (ix4 b q r d) := by
  have w : broadcastInDim S4x4x1x1024 ![0, 1, 3] bcast_S4x4x1024_S4x4x1x1024_0_1_3 (yrow V) (ix4 b q 0 d) = yrow V (ix3 b q d) := by
    pointwise
  rw [step7, ystarts_eq V t ht h, update_row _ _ t ht, w, yrow_apply V t ht h]

theorem step5 (t : ℕ) (h : AtRow V t) : AtRow (STEP V) (t + 1) := by
  funext i
  have e : num (STEP V) i = num V i + 1#32 := congrFun (STEP_main_v34_5 V) i
  rw [e, h]
  show BitVec.ofNat 32 t + 1#32 = BitVec.ofNat 32 (t + 1)
  exact (BitVec.ofNat_add t 1).symm

end Cert.ReferenceIdeal.Scan

end
-- ==== Proof.Value.Entry.lean ====
/-
What the reference's loop starts from: the four windows of `x`, `B` and `C`, the decay `exp A`, states of zero.
-/
module

public import proofs.«01_k».proof.Proof.Value.Trip
public import proofs.«01_k».proof.Proof.Value.Scan

@[expose] public section

noncomputable section

namespace Cert.ReferenceIdeal.Scan

open Cert.ReferenceIdeal Cert.ReferenceIdeal.Gen Cert.ReferenceIdeal.Value
open Idealize.ShloMosaic Idealize.ShloMosaic.TcCoe Idealize.ShloMosaic.StableHlo

/-! ## The windows -/

/-- 16 rows of zero in front of the 2048. -/
def padX (X : S4x2048x1024.Idx → EReal) : S4x2064x1024.Idx → EReal :=
  pad S4x2064x1024 ![0, 16, 0] ![0, 0, 0] ![0, 0, 0] X (sitofp (F := Ideal) .f32 (constantI S_ 32 0#32))
    pads_S4x2048x1024_S4x2064x1024_000_1600_000 h_S_

def padB (B : S4x2048x32.Idx → EReal) : S4x2064x32.Idx → EReal :=
  pad S4x2064x32 ![0, 16, 0] ![0, 0, 0] ![0, 0, 0] B (sitofp (F := Ideal) .f32 (constantI S_ 32 0#32))
    pads_S4x2048x32_S4x2064x32_000_1600_000 h_S_

theorem sitofp_zero : (FloatOps.sitofp (F := Ideal) FTy.f32 0#32 : EReal) = 0 := by
  show (((0#32 : BitVec 32).toInt : ℝ) : EReal) = 0
  simp

theorem padX_apply (X : S4x2048x1024.Idx → EReal) (b : Fin 4) (r : Fin 2064) (d : Fin 1024) (q t : ℕ) (h : 512 * q + t = r.val) :
    padX X (ix3 b r d) = Cert.Scan.win (fun r => X (ix3 b r d)) q t := by
  unfold padX
  by_cases hr : r.val < 16
  · rw [Cert.Scan.win_low _ (by omega)]
    pointwise
    rw [dif_neg fun h' => hr.not_ge h'.1]
    exact sitofp_zero
  · refine Eq.trans ?_ (Cert.Scan.win_eq _ (⟨r.val - 16, by have := r.isLt; omega⟩ : Fin 2048) (by simp only; omega)).symm
    pointwise
    rw [dif_pos ⟨by omega, by have := r.isLt; omega⟩]

/-- The four windows, 512 rows apart. -/
def winX (X : S4x2048x1024.Idx → EReal) : S4x4x528x1024.Idx → EReal :=
  concatenate S4x4x528x1024 1
    [⟨S4x1x528x1024, broadcastInDim S4x1x528x1024 ![0, 2, 3] bcast_S4x528x1024_S4x1x528x1024_0_2_3
        (extractStridedSlice S4x528x1024 ![0, 0, 0] (padX X) slices_S4x2064x1024_S4x528x1024_0_0_0)⟩,
      ⟨S4x1x528x1024, broadcastInDim S4x1x528x1024 ![0, 2, 3] bcast_S4x528x1024_S4x1x528x1024_0_2_3
        (extractStridedSlice S4x528x1024 ![0, 512, 0] (padX X) slices_S4x2064x1024_S4x528x1024_0_512_0)⟩,
      ⟨S4x1x528x1024, broadcastInDim S4x1x528x1024 ![0, 2, 3] bcast_S4x528x1024_S4x1x528x1024_0_2_3
        (extractStridedSlice S4x528x1024 ![0, 1024, 0] (padX X) slices_S4x2064x1024_S4x528x1024_0_1024_0)⟩,
      ⟨S4x1x528x1024, broadcastInDim S4x1x528x1024 ![0, 2, 3] bcast_S4x528x1024_S4x1x528x1024_0_2_3
        (extractStridedSlice S4x528x1024 ![0, 1536, 0] (padX X) slices_S4x2064x1024_S4x528x1024_0_1536_0)⟩]
    concatenates_S4x1x528x1024_S4x1x528x1024_S4x1x528x1024_S4x1x528x1024_S4x4x528x1024_d1

theorem winX_apply (X : S4x2048x1024.Idx → EReal) (b q : Fin 4) (t : Fin 528) (d : Fin 1024) :
    winX X (ix4 b q t d) = Cert.Scan.win (fun r => X (ix3 b r d)) q.val t.val := by
  refine Eq.trans ?_ (padX_apply X b (⟨512 * q.val + t.val, by have := q.isLt; have := t.isLt; omega⟩ : Fin 2064) d q.val t.val rfl)
  unfold winX
  match q with
  | ⟨0, _⟩ => pointwise
  | ⟨1, _⟩ => pointwise
  | ⟨2, _⟩ => pointwise
  | ⟨3, _⟩ => pointwise

theorem padB_apply (B : S4x2048x32.Idx → EReal) (b : Fin 4) (r : Fin 2064) (n : Fin 32) (q t : ℕ) (h : 512 * q + t = r.val) :
    padB B (ix3 b r n) = Cert.Scan.win (fun r => B (ix3 b r n)) q t := by
  unfold padB
  by_cases hr : r.val < 16
  · rw [Cert.Scan.win_low _ (by omega)]
    pointwise
    rw [dif_neg fun h' => hr.not_ge h'.1]
    exact sitofp_zero
  · refine Eq.trans ?_ (Cert.Scan.win_eq _ (⟨r.val - 16, by have := r.isLt; omega⟩ : Fin 2048) (by simp only; omega)).symm
    pointwise
    rw [dif_pos ⟨by omega, by have := r.isLt; omega⟩]

/-- The same of an operand 32 wide. -/
def winB (B : S4x2048x32.Idx → EReal) : S4x4x528x32.Idx → EReal :=
  concatenate S4x4x528x32 1
    [⟨S4x1x528x32, broadcastInDim S4x1x528x32 ![0, 2, 3] bcast_S4x528x32_S4x1x528x32_0_2_3
        (extractStridedSlice S4x528x32 ![0, 0, 0] (padB B) slices_S4x2064x32_S4x528x32_0_0_0)⟩,
      ⟨S4x1x528x32, broadcastInDim S4x1x528x32 ![0, 2, 3] bcast_S4x528x32_S4x1x528x32_0_2_3
        (extractStridedSlice S4x528x32 ![0, 512, 0] (padB B) slices_S4x2064x32_S4x528x32_0_512_0)⟩,
      ⟨S4x1x528x32, broadcastInDim S4x1x528x32 ![0, 2, 3] bcast_S4x528x32_S4x1x528x32_0_2_3
        (extractStridedSlice S4x528x32 ![0, 1024, 0] (padB B) slices_S4x2064x32_S4x528x32_0_1024_0)⟩,
      ⟨S4x1x528x32, broadcastInDim S4x1x528x32 ![0, 2, 3] bcast_S4x528x32_S4x1x528x32_0_2_3
        (extractStridedSlice S4x528x32 ![0, 1536, 0] (padB B) slices_S4x2064x32_S4x528x32_0_1536_0)⟩]
    concatenates_S4x1x528x32_S4x1x528x32_S4x1x528x32_S4x1x528x32_S4x4x528x32_d1

theorem winB_apply (B : S4x2048x32.Idx → EReal) (b q : Fin 4) (t : Fin 528) (n : Fin 32) :
    winB B (ix4 b q t n) = Cert.Scan.win (fun r => B (ix3 b r n)) q.val t.val := by
  refine Eq.trans ?_ (padB_apply B b (⟨512 * q.val + t.val, by have := q.isLt; have := t.isLt; omega⟩ : Fin 2064) n q.val t.val rfl)
  unfold winB
  match q with
  | ⟨0, _⟩ => pointwise
  | ⟨1, _⟩ => pointwise
  | ⟨2, _⟩ => pointwise
  | ⟨3, _⟩ => pointwise

/-! ## The loop's entry -/

variable (m : (ℓ : Loc nD τ sig) → Buf (Elt Ideal) ℓ) (c : Dev nD)

theorem entry_num : AtRow (entryContents preI m c) 0 := by
  unfold AtRow num
  simp only [entryContents, afterL_cons, afterL_nil]
  after_reads_simp
  rfl

theorem entry_xs : xs (entryContents preI m c) = winX (m ((c.tc : Thread nD τ).loc main_arg0)) := by
  unfold xs
  simp only [entryContents, afterL_cons, afterL_nil]
  after_reads_simp
  rfl

theorem entry_bs : bs (entryContents preI m c) = winB (m ((c.tc : Thread nD τ).loc main_arg2)) := by
  unfold bs
  simp only [entryContents, afterL_cons, afterL_nil]
  after_reads_simp
  rfl

theorem entry_cs : cs (entryContents preI m c) = winB (m ((c.tc : Thread nD τ).loc main_arg3)) := by
  unfold cs
  simp only [entryContents, afterL_cons, afterL_nil]
  after_reads_simp
  rfl

theorem entry_decays (A : S1024x32.Idx → EReal) (hA : m ((c.tc : Thread nD τ).loc main_arg1) = A) (d : Fin 1024) (n : Fin 32) :
    decays (entryContents preI m c) (ix4 0 0 d n) = Ideal.exp (A (ix2 d n)) := by
  have e : decays (entryContents preI m c)
      = broadcastInDim S1x1x1024x32 ![2, 3] bcast_S1024x32_S1x1x1024x32_2_3 (Host.exp (F := Ideal) (φ := .f32) A) := by
    subst hA
    unfold decays
    simp only [entryContents, afterL_cons, afterL_nil]
    after_reads_simp
    rfl
  rw [e]
  pointwise

theorem entry_hs (i : S4x4x1024x32.Idx) : hs (entryContents preI m c) i = 0 := by
  have e : hs (entryContents preI m c)
      = broadcastInDim S4x4x1024x32 ![] bcast_S_S4x4x1024x32 (constant (F := Ideal) S_ .f32 0x00000000#32) := by
    unfold hs
    simp only [entryContents, afterL_cons, afterL_nil]
    after_reads_simp
    rfl
  rw [e]
  pointwise

end Cert.ReferenceIdeal.Scan

end
-- ==== Proof.Value.Reference.lean ====
/-
The reference's result: after trip `t` the states are those of the recurrence after `t` rows of each window, and the rows
written so far are its results; the first 16 rows of each window are then dropped.
-/
module

public import proofs.«01_k».proof.Proof.Value.Entry

@[expose] public section

noncomputable section

namespace Cert.ReferenceIdeal.Scan

open Cert.ReferenceIdeal Cert.ReferenceIdeal.Gen Cert.ReferenceIdeal.Value
open Idealize.ShloMosaic Idealize.ShloMosaic.TcCoe Idealize.ShloMosaic.StableHlo
open Cert.Scan (win st spec)

/-- What the loop carries after `t` trips. -/
structure Inv (X : S4x2048x1024.Idx → EReal) (A : S1024x32.Idx → EReal) (B C : S4x2048x32.Idx → EReal) (V : Valuation τ sig (Elt Ideal))
    (t : ℕ) : Prop where
  num : AtRow V t
  decays : ∀ d n, decays V (ix4 0 0 d n) = Ideal.exp (A (ix2 d n))
  xs : ∀ b q (r : Fin 528) d, xs V (ix4 b q r d) = win (fun r => X (ix3 b r d)) q.val r.val
  bs : ∀ b q (r : Fin 528) n, bs V (ix4 b q r n) = win (fun r => B (ix3 b r n)) q.val r.val
  cs : ∀ b q (r : Fin 528) n, cs V (ix4 b q r n) = win (fun r => C (ix3 b r n)) q.val r.val
  hs : ∀ b q d n, hs V (ix4 b q d n) = st X A B b n d q.val t
  ys : ∀ b q (r : Fin 528) d, r.val < t → ys V (ix4 b q r d)
    = ∑ n : Fin 32, st X A B b n d q.val (r.val + 1) * win (fun r => C (ix3 b r n)) q.val r.val

variable {X : S4x2048x1024.Idx → EReal} {A : S1024x32.Idx → EReal} {B C : S4x2048x32.Idx → EReal}

theorem inv_entry (m : (ℓ : Loc nD τ sig) → Buf (Elt Ideal) ℓ) (c : Dev nD) (hX : m ((c.tc : Thread nD τ).loc main_arg0) = X)
    (hA : m ((c.tc : Thread nD τ).loc main_arg1) = A) (hB : m ((c.tc : Thread nD τ).loc main_arg2) = B)
    (hC : m ((c.tc : Thread nD τ).loc main_arg3) = C) : Inv X A B C (entryContents preI m c) 0 where
  num := entry_num m c
  decays := entry_decays m c A hA
  xs b q r d := by rw [entry_xs, hX]; exact winX_apply X b q r d
  bs b q r n := by rw [entry_bs, hB]; exact winB_apply B b q r n
  cs b q r n := by rw [entry_cs, hC]; exact winB_apply C b q r n
  hs b q d n := entry_hs m c _
  ys b q r d h := absurd h (Nat.not_lt_zero _)

theorem next_st {V : Valuation τ sig (Elt Ideal)} {t : ℕ} (h : Inv X A B C V t) (ht : t < 528) (b q : Fin 4) (d : Fin 1024) (n : Fin 32) :
    next V (ix4 b q d n) = st X A B b n d q.val (t + 1) := by
  rw [next_apply V t ht h.num, h.hs, h.decays, h.xs, h.bs]
  rfl

theorem inv_step {V : Valuation τ sig (Elt Ideal)} {t : ℕ} (h : Inv X A B C V t) (ht : t < 528) : Inv X A B C (STEP V) (t + 1) where
  num := step5 V t h.num
  decays d n := (congrFun (STEP_main_v34_0 V) _).trans (h.decays d n)
  xs b q r d := (congrFun (STEP_main_v34_1 V) _).trans (h.xs b q r d)
  bs b q r n := (congrFun (STEP_main_v34_2 V) _).trans (h.bs b q r n)
  cs b q r n := (congrFun (STEP_main_v34_3 V) _).trans (h.cs b q r n)
  hs b q d n := (congrFun (step6 V) _).trans (next_st h ht b q d n)
  ys b q r d hr := by
    rw [step7_apply V t ht h.num]
    by_cases e : r.val = t
    · rw [if_pos e]
      refine Finset.sum_congr rfl fun n _ => ?_
      rw [next_st h ht, h.cs]
      simp only [e]
    · rw [if_neg e]
      exact h.ys b q r d (by omega)

theorem inv_iter {V : Valuation τ sig (Elt Ideal)} (h : Inv X A B C V 0) : ∀ t, t ≤ 528 → Inv X A B C (STEP^[t] V) t
  | 0, _ => h
  | t + 1, ht => by
    rw [Function.iterate_succ_apply']
    exact inv_step (inv_iter h t (by omega)) (by omega)

/-- Row `s` of the result is row `s % 512 + 16` of window `s / 512`. -/
theorem out_eq {V : Valuation τ sig (Elt Ideal)} (h : Inv X A B C V 528) : (out_main_v36 V : S4x2048x1024.Idx → EReal) = spec X A B C := by
  have e : (out_main_v36 V : S4x2048x1024.Idx → EReal) = shapeCast S4x2048x1024
      (extractStridedSlice S4x4x512x1024 ![0, 0, 16, 0] (ys V) slices_S4x4x528x1024_S4x4x512x1024_0_0_16_0)
      shapeCasts_S4x4x512x1024_S4x2048x1024 := rfl
  have k : ∀ (b : Fin 4) (s : Fin 2048) (d : Fin 1024), (out_main_v36 V : S4x2048x1024.Idx → EReal) (ix3 b s d)
      = ys V (ix4 b (⟨s.val / 512, by have := s.isLt; omega⟩ : Fin 4) (⟨s.val % 512 + 16, by omega⟩ : Fin 528) d) := fun b s d => by
    rw [e]
    pointwise
    simp only [Nat.add_comm 16]
  funext i
  obtain ⟨b, s, d, rfl⟩ : ∃ (b : Fin 4) (s : Fin 2048) (d : Fin 1024), i = ix3 b s d := ⟨i 0, i 1, i 2, eq_ix3 i⟩
  rw [k, h.ys _ _ _ _ (by show s.val % 512 + 16 < 528; omega)]
  show _ = ∑ n : Fin 32, st X A B b n d (s.val / 512) (s.val % 512 + 17) * C (ix3 b s n)
  refine Finset.sum_congr rfl fun n _ => ?_
  rw [Cert.Scan.win_eq (fun r => C (ix3 b r n)) s (by show 512 * (s.val / 512) + (s.val % 512 + 16) = s.val + 16; omega)]

end Cert.ReferenceIdeal.Scan

end
-- ==== Proof.lean ====
/-
The proof of the claims. The kernel's run is proved once for any float arithmetic (`Proof/Bits/`, and the same text on
the idealized program in `Proof/Ideal/`); from it come both of the kernel's frames. On extended reals the
kernel's result and the reference's are the same recurrence, `Cert.Scan.spec` (`Proof/Value/Scan.lean`): `Proof/Ideal/Value.lean`
reads it off the kernel's run, `Proof/Value/Reference.lean` off the reference's.
-/
module

public import proofs.«01_k».proof.Defs
public import proofs.«01_k».proof.Proof.Bits.Ends
public import proofs.«01_k».proof.Proof.Ideal.Ends
public import proofs.«01_k».proof.Proof.Gen.ReferenceIdeal
public import proofs.«01_k».proof.Proof.Gen.ReferenceIdeal.Run
public import proofs.«01_k».proof.Proof.Ideal.Operands
public import proofs.«01_k».proof.Proof.Value.Reference

@[expose] public section

noncomputable section

namespace Cert.Proof

open Idealize.ShloMosaic Idealize.SL.Sem Cert.Kernel

theorem quiescent_kernel : Cert.quiescent_Kernel := fun m g _ =>
  (θ_run _ _ _).mono (fun _ h => ⟨fun c => (h.1 c).2, h.2⟩) (Cert.Kernel.Scan.ends m g)

theorem quiescent_kernelIdeal : Cert.quiescent_KernelIdeal := fun m g _ =>
  (θ_run _ _ _).mono (fun _ h => ⟨fun c => (h.1 c).2, h.2⟩) (Cert.KernelIdeal.Scan.ends m g)

theorem quiescent_referenceIdeal : Cert.quiescent_ReferenceIdeal := fun m g _ =>
  (θ_run _ _ _).mono (fun r h => ⟨fun c => (h c).2, sem_eq_zero_of_no_sems (by decide) r.2⟩) (Cert.ReferenceIdeal.Value.run m g)

/-- Both results are `Cert.Scan.spec` of the arguments: the kernel's in blocks, the reference's whole. -/
theorem algebraic : Cert.algebraic_KernelIdeal_ReferenceIdeal := by
  intro m g m' g' _ h
  have H := Cert.KernelIdeal.Scan.holds m h
  refine ⟨Cert.Scan.spec (m' ((0 : Dev Cert.ReferenceIdeal.nD).tc.loc Cert.ReferenceIdeal.main_arg0))
    (m' ((0 : Dev Cert.ReferenceIdeal.nD).tc.loc Cert.ReferenceIdeal.main_arg1))
    (m' ((0 : Dev Cert.ReferenceIdeal.nD).tc.loc Cert.ReferenceIdeal.main_arg2))
    (m' ((0 : Dev Cert.ReferenceIdeal.nD).tc.loc Cert.ReferenceIdeal.main_arg3)), ?_, ?_⟩
  · refine (θ_run _ _ _).mono (fun _ h c => ⟨(h.1 c).1.trans ?_, (h.1 c).2⟩) (Cert.KernelIdeal.Scan.ends m g)
    rw [Cert.KernelIdeal.Scan.out_eq H c]
    funext i
    obtain ⟨b, r, d, rfl⟩ : ∃ (b : Fin 4) (r d : Fin 1024), i = ix3 b r d := ⟨i 0, i 1, i 2, eq_ix3 i⟩
    exact (Cert.KernelIdeal.Scan.block_apply c _ _ b r d _ rfl).symm
  · refine (θ_run _ _ _).mono (fun _ h => ⟨(h 0).1.trans ?_, (h 0).2⟩) (Cert.ReferenceIdeal.Value.run m' g')
    exact Cert.ReferenceIdeal.Scan.out_eq
      (Cert.ReferenceIdeal.Scan.inv_iter (Cert.ReferenceIdeal.Scan.inv_entry m' 0 rfl rfl rfl rfl) 528 le_rfl)

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
